-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v266)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v266) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v385) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S64x512 : Shape := ⟨2, ![64, 512]⟩
abbrev S8x64 : Shape := ⟨2, ![8, 64]⟩
abbrev S512 : Shape := ⟨1, ![512]⟩
abbrev S512x512 : Shape := ⟨2, ![512, 512]⟩
abbrev S512x64 : Shape := ⟨2, ![512, 64]⟩
abbrev S1x64 : Shape := ⟨2, ![1, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x512 : S_.BroadcastsInDim S64x512 (![] : Fin 0 → Fin S64x512.rank)
  reducesTo_S64x512_S_d0_1 : S64x512.ReducesTo [0, 1] S_
  bcast_S_S8x64 : S_.BroadcastsInDim S8x64 (![] : Fin 0 → Fin S8x64.rank)
  reducesTo_S8x64_S_d0_1 : S8x64.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x64 : S_.BroadcastsInDim S512x64 (![] : Fin 0 → Fin S512x64.rank)
  reducesTo_S512x64_S_d0_1 : S512x64.ReducesTo [0, 1] S_
  bcast_S_S1x64 : S_.BroadcastsInDim S1x64 (![] : Fin 0 → Fin S1x64.rank)
  reducesTo_S1x64_S_d0_1 : S1x64.ReducesTo [0, 1] S_

variable [Facts]

def fn_part4 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : IVec S_ 1 := andi main_v3 main_v7
  let main_v65 : IVec S_ 1 := andi main_v64 main_v11
  let main_v66 : IVec S_ 1 := andi main_v65 main_v15
  let main_v67 : IVec S_ 1 := andi main_v66 main_v19
  let main_v68 : IVec S_ 1 := andi main_v67 main_v23
  let main_v69 : IVec S_ 1 := andi main_v68 main_v27
  let main_v70 : IVec S_ 1 := andi main_v69 main_v31
  let main_v71 : IVec S_ 1 := andi main_v70 main_v35
  let main_v72 : IVec S_ 1 := andi main_v71 main_v39
  let main_v73 : IVec S_ 1 := andi main_v72 main_v43
  let main_v74 : IVec S_ 1 := andi main_v73 main_v47
  let main_v75 : IVec S_ 1 := andi main_v74 main_v51
  let main_v76 : IVec S_ 1 := andi main_v75 main_v55
  let main_v77 : IVec S_ 1 := andi main_v76 main_v59
  let main_v78 : IVec S_ 1 := andi main_v77 main_v63
  main_v78

def fn_part3 {F : FTy → Type} [FloatOps F] (main_arg13 : FVec F S512 .f32) (main_arg14 : FVec F S512x64 .f32) (main_arg15 : FVec F S1x64 .f32) (main_arg16 : FVec F S1x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S512 .f32 := Host.absf main_arg13
  let main_cst_22 : FVec F S_ .f32 := constant S_ .f32 0x7F800000#32
  let main_v49 : FVec F S512 .f32 := broadcastInDim S512 ![] bcast_S_S512 main_cst_22
  let main_v50 : IVec S512 1 := cmpf .olt main_v48 main_v49
  let main_c_23 : IVec S_ 1 := constantI S_ 1 1#1
  let main_v51 : IVec S_ 1 := (fun x v => Host.reduce IntOp.andi x v reducesTo_S512_S_d0 h_S_) main_v50 main_c_23
  let main_v52 : FVec F S512x64 .f32 := Host.absf main_arg14
  let main_cst_24 : FVec F S_ .f32 := constant S_ .f32 0x7F800000#32
  let main_v53 : FVec F S512x64 .f32 := broadcastInDim S512x64 ![] bcast_S_S512x64 main_cst_24
  let main_v54 : IVec S512x64 1 := cmpf .olt main_v52 main_v53
  let main_c_25 : IVec S_ 1 := constantI S_ 1 1#1
  let main_v55 : IVec S_ 1 := (fun x v => Host.reduce IntOp.andi x v reducesTo_S512x64_S_d0_1 h_S_) main_v54 main_c_25
  let main_v56 : FVec F S1x64 .f32 := Host.absf main_arg15
  let main_cst_26 : FVec F S_ .f32 := constant S_ .f32 0x7F800000#32
  let main_v57 : FVec F S1x64 .f32 := broadcastInDim S1x64 ![] bcast_S_S1x64 main_cst_26
  let main_v58 : IVec S1x64 1 := cmpf .olt main_v56 main_v57
  let main_c_27 : IVec S_ 1 := constantI S_ 1 1#1
  let main_v59 : IVec S_ 1 := (fun x v => Host.reduce IntOp.andi x v reducesTo_S1x64_S_d0_1 h_S_) main_v58 main_c_27
  let main_v60 : FVec F S1x64 .f32 := Host.absf main_arg16
  let main_cst_28 : FVec F S_ .f32 := constant S_ .f32 0x7F800000#32
  let main_v61 : FVec F S1x64 .f32 := broadcastInDim S1x64 ![] bcast_S_S1x64 main_cst_28
  let main_v62 : IVec S1x64 1 := cmpf .olt main_v60 main_v61
  let main_c_29 : IVec S_ 1 := constantI S_ 1 1#1
  let main_v63 : IVec S_ 1 := (fun x v => Host.reduce IntOp.andi x v reducesTo_S1x64_S_d0_1 h_S_) main_v62 main_c_29
  fn_part4 (F := F) main_v3 main_v7 main_v11 main_v15 main_v19 main_v23 main_v27 main_v31 main_v35 main_v39 main_v43 main_v47 main_v51 main_v55 main_v59 main_v63

def fn_part2 {F : FTy → Type} [FloatOps F] (main_arg9 : FVec F S512 .f32) (main_arg10 : FVec F S512x512 .f32) (main_arg11 : FVec F S8x64 .f32) (main_arg12 : FVec F S8x64 .f32) (main_arg13 : FVec F S512 .f32) (main_arg14 : FVec F S512x64 .f32) (main_arg15 : FVec F S1x64 .f32) (main_arg16 : FVec F S1x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S512 .f32 := Host.absf main_arg9
  let main_cst_14 : FVec F S_ .f32 := constant S_ .f32 0x7F800000#32
  let main_v33 : FVec F S512 .f32 := broadcastInDim S512 ![] bcast_S_S512 main_cst_14
  let main_v34 : IVec S512 1 := cmpf .olt main_v32 main_v33
  let main_c_15 : IVec S_ 1 := constantI S_ 1 1#1
  let main_v35 : IVec S_ 1 := (fun x v => Host.reduce IntOp.andi x v reducesTo_S512_S_d0 h_S_) main_v34 main_c_15
  let main_v36 : FVec F S512x512 .f32 := Host.absf main_arg10
  let main_cst_16 : FVec F S_ .f32 := constant S_ .f32 0x7F800000#32
  let main_v37 : FVec F S512x512 .f32 := broadcastInDim S512x512 ![] bcast_S_S512x512 main_cst_16
  let main_v38 : IVec S512x512 1 := cmpf .olt main_v36 main_v37
  let main_c_17 : IVec S_ 1 := constantI S_ 1 1#1
  let main_v39 : IVec S_ 1 := (fun x v => Host.reduce IntOp.andi x v reducesTo_S512x512_S_d0_1 h_S_) main_v38 main_c_17
  let main_v40 : FVec F S8x64 .f32 := Host.absf main_arg11
  let main_cst_18 : FVec F S_ .f32 := constant S_ .f32 0x7F800000#32
  let main_v41 : FVec F S8x64 .f32 := broadcastInDim S8x64 ![] bcast_S_S8x64 main_cst_18
  let main_v42 : IVec S8x64 1 := cmpf .olt main_v40 main_v41
  let main_c_19 : IVec S_ 1 := constantI S_ 1 1#1
  let main_v43 : IVec S_ 1 := (fun x v => Host.reduce IntOp.andi x v reducesTo_S8x64_S_d0_1 h_S_) main_v42 main_c_19
  let main_v44 : FVec F S8x64 .f32 := Host.absf main_arg12
  let main_cst_20 : FVec F S_ .f32 := constant S_ .f32 0x7F800000#32
  let main_v45 : FVec F S8x64 .f32 := broadcastInDim S8x64 ![] bcast_S_S8x64 main_cst_20
  let main_v46 : IVec S8x64 1 := cmpf .olt main_v44 main_v45
  let main_c_21 : IVec S_ 1 := constantI S_ 1 1#1
  let main_v47 : IVec S_ 1 := (fun x v => Host.reduce IntOp.andi x v reducesTo_S8x64_S_d0_1 h_S_) main_v46 main_c_21
  fn_part3 (F := F) main_arg13 main_arg14 main_arg15 main_arg16 main_v3 main_v7 main_v11 main_v15 main_v19 main_v23 main_v27 main_v31 main_v35 main_v39 main_v43 main_v47

def fn_part1 {F : FTy → Type} [FloatOps F] (main_arg5 : FVec F S64 .f32) (main_arg6 : FVec F S64x512 .f32) (main_arg7 : FVec F S8x64 .f32) (main_arg8 : FVec F S8x64 .f32) (main_arg9 : FVec F S512 .f32) (main_arg10 : FVec F S512x512 .f32) (main_arg11 : FVec F S8x64 .f32) (main_arg12 : FVec F S8x64 .f32) (main_arg13 : FVec F S512 .f32) (main_arg14 : FVec F S512x64 .f32) (main_arg15 : FVec F S1x64 .f32) (main_arg16 : FVec F S1x64 .f32) (main_v3 : IVec S_ 1) (main_v7 : IVec S_ 1) (main_v11 : IVec S_ 1) (main_v15 : IVec S_ 1) : IVec S_ 1 :=
  let main_v16 : FVec F S64 .f32 := Host.absf main_arg5
  let main_cst_6 : FVec F S_ .f32 := constant S_ .f32 0x7F800000#32
  let main_v17 : FVec F S64 .f32 := broadcastInDim S64 ![] bcast_S_S64 main_cst_6
  let main_v18 : IVec S64 1 := cmpf .olt main_v16 main_v17
  let main_c_7 : IVec S_ 1 := constantI S_ 1 1#1
  let main_v19 : IVec S_ 1 := (fun x v => Host.reduce IntOp.andi x v reducesTo_S64_S_d0 h_S_) main_v18 main_c_7
  let main_v20 : FVec F S64x512 .f32 := Host.absf main_arg6
  let main_cst_8 : FVec F S_ .f32 := constant S_ .f32 0x7F800000#32
  let main_v21 : FVec F S64x512 .f32 := broadcastInDim S64x512 ![] bcast_S_S64x512 main_cst_8
  let main_v22 : IVec S64x512 1 := cmpf .olt main_v20 main_v21
  let main_c_9 : IVec S_ 1 := constantI S_ 1 1#1
  let main_v23 : IVec S_ 1 := (fun x v => Host.reduce IntOp.andi x v reducesTo_S64x512_S_d0_1 h_S_) main_v22 main_c_9
  let main_v24 : FVec F S8x64 .f32 := Host.absf main_arg7
  let main_cst_10 : FVec F S_ .f32 := constant S_ .f32 0x7F800000#32
  let main_v25 : FVec F S8x64 .f32 := broadcastInDim S8x64 ![] bcast_S_S8x64 main_cst_10
  let main_v26 : IVec S8x64 1 := cmpf .olt main_v24 main_v25
  let main_c_11 : IVec S_ 1 := constantI S_ 1 1#1
  let main_v27 : IVec S_ 1 := (fun x v => Host.reduce IntOp.andi x v reducesTo_S8x64_S_d0_1 h_S_) main_v26 main_c_11
  let main_v28 : FVec F S8x64 .f32 := Host.absf main_arg8
  let main_cst_12 : FVec F S_ .f32 := constant S_ .f32 0x7F800000#32
  let main_v29 : FVec F S8x64 .f32 := broadcastInDim S8x64 ![] bcast_S_S8x64 main_cst_12
  let main_v30 : IVec S8x64 1 := cmpf .olt main_v28 main_v29
  let main_c_13 : IVec S_ 1 := constantI S_ 1 1#1
  let main_v31 : IVec S_ 1 := (fun x v => Host.reduce IntOp.andi x v reducesTo_S8x64_S_d0_1 h_S_) main_v30 main_c_13
  fn_part2 (F := F) main_arg9 main_arg10 main_arg11 main_arg12 main_arg13 main_arg14 main_arg15 main_arg16 main_v3 main_v7 main_v11 main_v15 main_v19 main_v23 main_v27 main_v31

def fn {F : FTy → Type} [FloatOps F] (main_arg0 : FVec F S10000x128 .f32) (main_arg1 : IVec S2x320000 32) (main_arg2 : FVec F S128x64 .f32) (main_arg3 : FVec F S64 .f32) (main_arg4 : FVec F S64x64 .f32) (main_arg5 : FVec F S64 .f32) (main_arg6 : FVec F S64x512 .f32) (main_arg7 : FVec F S8x64 .f32) (main_arg8 : FVec F S8x64 .f32) (main_arg9 : FVec F S512 .f32) (main_arg10 : FVec F S512x512 .f32) (main_arg11 : FVec F S8x64 .f32) (main_arg12 : FVec F S8x64 .f32) (main_arg13 : FVec F S512 .f32) (main_arg14 : FVec F S512x64 .f32) (main_arg15 : FVec F S1x64 .f32) (main_arg16 : FVec F S1x64 .f32) (main_arg17 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : FVec F S64 .f32 := Host.absf main_arg3
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : FVec F S64x64 .f32 := Host.absf main_arg4
  let main_cst_4 : FVec F S_ .f32 := constant S_ .f32 0x7F800000#32
  let main_v13 : FVec F S64x64 .f32 := broadcastInDim S64x64 ![] bcast_S_S64x64 main_cst_4
  let main_v14 : IVec S64x64 1 := cmpf .olt main_v12 main_v13
  let main_c_5 : IVec S_ 1 := constantI S_ 1 1#1
  let main_v15 : IVec S_ 1 := (fun x v => Host.reduce IntOp.andi x v reducesTo_S64x64_S_d0_1 h_S_) main_v14 main_c_5
  fn_part1 (F := F) main_arg5 main_arg6 main_arg7 main_arg8 main_arg9 main_arg10 main_arg11 main_arg12 main_arg13 main_arg14 main_arg15 main_arg16 main_v3 main_v7 main_v11 main_v15
-- ==== Kernel.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S64x512 : Shape := ⟨2, ![64, 512]⟩
abbrev S8x64 : Shape := ⟨2, ![8, 64]⟩
abbrev S512 : Shape := ⟨1, ![512]⟩
abbrev S512x512 : Shape := ⟨2, ![512, 512]⟩
abbrev S512x64 : Shape := ⟨2, ![512, 64]⟩
abbrev S1x64 : Shape := ⟨2, ![1, 64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x64 : Shape := ⟨2, ![10000, 64]⟩
abbrev S2000x128 : Shape := ⟨2, ![2000, 128]⟩
abbrev S2000x64 : Shape := ⟨2, ![2000, 64]⟩
abbrev S10000x1 : Shape := ⟨2, ![10000, 1]⟩
abbrev S330000x64 : Shape := ⟨2, ![330000, 64]⟩
abbrev S10000x512 : Shape := ⟨2, ![10000, 512]⟩
abbrev S2000x512 : Shape := ⟨2, ![2000, 512]⟩
abbrev S1x512 : Shape := ⟨2, ![1, 512]⟩
abbrev S10000x8x64 : Shape := ⟨3, ![10000, 8, 64]⟩
abbrev S1x8x64 : Shape := ⟨3, ![1, 8, 64]⟩
abbrev S10000x8 : Shape := ⟨2, ![10000, 8]⟩
abbrev S8 : Shape := ⟨1, ![8]⟩
abbrev S1x8 : Shape := ⟨2, ![1, 8]⟩
abbrev S330000x8 : Shape := ⟨2, ![330000, 8]⟩
abbrev S330000x8x64 : Shape := ⟨3, ![330000, 8, 64]⟩
abbrev S330000x8x1 : Shape := ⟨3, ![330000, 8, 1]⟩
abbrev S10000x8x1 : Shape := ⟨3, ![10000, 8, 1]⟩
abbrev S10000x1x64 : Shape := ⟨3, ![10000, 1, 64]⟩
abbrev S1x1x64 : Shape := ⟨3, ![1, 1, 64]⟩
abbrev S1 : Shape := ⟨1, ![1]⟩
abbrev S1x1 : Shape := ⟨2, ![1, 1]⟩
abbrev S330000x1x64 : Shape := ⟨3, ![330000, 1, 64]⟩
abbrev S330000x1x1 : Shape := ⟨3, ![330000, 1, 1]⟩
abbrev S10000x1x1 : Shape := ⟨3, ![10000, 1, 1]⟩

abbrev nBuf : Space → Nat
  | .hbm => 463
  | .vmem => 30
  | .smem => 0
  | _ => 0

abbrev hbmTy0_0 (i : Nat) : BufTy := match i % 128 with
  | 0 => ⟨S10000x128, .f32⟩
  | 1 => ⟨S2x320000, .i32⟩
  | 2 => ⟨S128x64, .f32⟩
  | 3 => ⟨S64, .f32⟩
  | 4 => ⟨S64x64, .f32⟩
  | 5 => ⟨S64, .f32⟩
  | 6 => ⟨S64x512, .f32⟩
  | 7 => ⟨S8x64, .f32⟩
  | 8 => ⟨S8x64, .f32⟩
  | 9 => ⟨S512, .f32⟩
  | 10 => ⟨S512x512, .f32⟩
  | 11 => ⟨S8x64, .f32⟩
  | 12 => ⟨S8x64, .f32⟩
  | 13 => ⟨S512, .f32⟩
  | 14 => ⟨S512x64, .f32⟩
  | 15 => ⟨S1x64, .f32⟩
  | 16 => ⟨S1x64, .f32⟩
  | 17 => ⟨S64, .f32⟩
  | 18 => ⟨S10000, .i32⟩
  | 19 => ⟨S1x320000, .i32⟩
  | 20 => ⟨S320000, .i32⟩
  | 21 => ⟨S330000, .i32⟩
  | 22 => ⟨S1x320000, .i32⟩
  | 23 => ⟨S320000, .i32⟩
  | 24 => ⟨S330000, .i32⟩
  | 25 => ⟨S_, .f32⟩
  | 26 => ⟨S330000, .f32⟩
  | 27 => ⟨S_, .f32⟩
  | 28 => ⟨S10000, .f32⟩
  | 29 => ⟨S330000x1, .i32⟩
  | 30 => ⟨S10000, .f32⟩
  | 31 => ⟨S_, .f32⟩
  | 32 => ⟨S10000, .f32⟩
  | 33 => ⟨S10000, .i1⟩
  | 34 => ⟨S_, .f32⟩
  | 35 => ⟨S10000, .f32⟩
  | 36 => ⟨S10000, .i1⟩
  | 37 => ⟨S_, .f32⟩
  | 38 => ⟨S_, .f32⟩
  | 39 => ⟨S10000, .f32⟩
  | 40 => ⟨S10000, .f32⟩
  | 41 => ⟨S10000, .f32⟩
  | 42 => ⟨S_, .f32⟩
  | 43 => ⟨S10000, .f32⟩
  | 44 => ⟨S10000, .f32⟩
  | 45 => ⟨S_, .f32⟩
  | 46 => ⟨S_, .f32⟩
  | 47 => ⟨S10000, .f32⟩
  | 48 => ⟨S10000, .f32⟩
  | 49 => ⟨S_, .f32⟩
  | 50 => ⟨S64, .f32⟩
  | 51 => ⟨S10000x64, .f32⟩
  | 52 => ⟨S10000x1, .f32⟩
  | 53 => ⟨S10000x64, .f32⟩
  | 54 => ⟨S10000x64, .f32⟩
  | 55 => ⟨S_, .i32⟩
  | 56 => ⟨S330000, .i32⟩
  | 57 => ⟨S330000, .i1⟩
  | 58 => ⟨S_, .i32⟩
  | 59 => ⟨S330000, .i32⟩
  | 60 => ⟨S330000, .i32⟩
  | 61 => ⟨S330000, .i32⟩
  | 62 => ⟨S330000x1, .i32⟩
  | 63 => ⟨S330000x64, .f32⟩
  | 64 => ⟨S_, .f32⟩
  | 65 => ⟨S10000x64, .f32⟩
  | 66 => ⟨S330000x1, .i32⟩
  | 67 => ⟨S10000x64, .f32⟩
  | 68 => ⟨S10000x1, .f32⟩
  | 69 => ⟨S10000x64, .f32⟩
  | 70 => ⟨S10000x64, .f32⟩
  | 71 => ⟨S1x64, .f32⟩
  | 72 => ⟨S10000x64, .f32⟩
  | 73 => ⟨S10000x64, .f32⟩
  | 74 => ⟨S_, .f32⟩
  | 75 => ⟨S10000x64, .f32⟩
  | 76 => ⟨S10000x64, .i1⟩
  | 77 => ⟨S_, .f32⟩
  | 78 => ⟨S10000x64, .f32⟩
  | 79 => ⟨S10000x64, .i1⟩
  | 80 => ⟨S_, .f32⟩
  | 81 => ⟨S_, .f32⟩
  | 82 => ⟨S10000x64, .f32⟩
  | 83 => ⟨S10000x64, .f32⟩
  | 84 => ⟨S10000x64, .f32⟩
  | 85 => ⟨S_, .f32⟩
  | 86 => ⟨S10000x64, .f32⟩
  | 87 => ⟨S10000x64, .f32⟩
  | 88 => ⟨S10000x64, .f32⟩
  | 89 => ⟨S_, .f32⟩
  | 90 => ⟨S64, .f32⟩
  | 91 => ⟨S10000x64, .f32⟩
  | 92 => ⟨S10000x1, .f32⟩
  | 93 => ⟨S10000x64, .f32⟩
  | 94 => ⟨S10000x64, .f32⟩
  | 95 => ⟨S_, .i32⟩
  | 96 => ⟨S330000, .i32⟩
  | 97 => ⟨S330000, .i1⟩
  | 98 => ⟨S_, .i32⟩
  | 99 => ⟨S330000, .i32⟩
  | 100 => ⟨S330000, .i32⟩
  | 101 => ⟨S330000, .i32⟩
  | 102 => ⟨S330000x1, .i32⟩
  | 103 => ⟨S330000x64, .f32⟩
  | 104 => ⟨S_, .f32⟩
  | 105 => ⟨S10000x64, .f32⟩
  | 106 => ⟨S330000x1, .i32⟩
  | 107 => ⟨S10000x64, .f32⟩
  | 108 => ⟨S10000x1, .f32⟩
  | 109 => ⟨S10000x64, .f32⟩
  | 110 => ⟨S10000x64, .f32⟩
  | 111 => ⟨S1x64, .f32⟩
  | 112 => ⟨S10000x64, .f32⟩
  | 113 => ⟨S10000x64, .f32⟩
  | 114 => ⟨S_, .f32⟩
  | 115 => ⟨S10000x64, .f32⟩
  | 116 => ⟨S10000x64, .i1⟩
  | 117 => ⟨S_, .f32⟩
  | 118 => ⟨S10000x64, .f32⟩
  | 119 => ⟨S10000x64, .i1⟩
  | 120 => ⟨S_, .f32⟩
  | 121 => ⟨S_, .f32⟩
  | 122 => ⟨S10000x64, .f32⟩
  | 123 => ⟨S10000x64, .f32⟩
  | 124 => ⟨S10000x64, .f32⟩
  | 125 => ⟨S_, .f32⟩
  | 126 => ⟨S10000x64, .f32⟩
  | 127 => ⟨S10000x64, .f32⟩
  | _ => ⟨S10000x128, .f32⟩

abbrev hbmTy0_1 (i : Nat) : BufTy := match i % 128 with
  | 0 => ⟨S10000x64, .f32⟩
  | 1 => ⟨S_, .f32⟩
  | 2 => ⟨S512, .f32⟩
  | 3 => ⟨S10000x512, .f32⟩
  | 4 => ⟨S10000x8x64, .f32⟩
  | 5 => ⟨S1x8x64, .f32⟩
  | 6 => ⟨S10000x8x64, .f32⟩
  | 7 => ⟨S10000x8x64, .f32⟩
  | 8 => ⟨S_, .f32⟩
  | 9 => ⟨S10000x8, .f32⟩
  | 10 => ⟨S1x8x64, .f32⟩
  | 11 => ⟨S10000x8x64, .f32⟩
  | 12 => ⟨S10000x8x64, .f32⟩
  | 13 => ⟨S_, .f32⟩
  | 14 => ⟨S10000x8, .f32⟩
  | 15 => ⟨S_, .f32⟩
  | 16 => ⟨S8, .f32⟩
  | 17 => ⟨S1x8, .f32⟩
  | 18 => ⟨S10000x8, .f32⟩
  | 19 => ⟨S10000x8, .f32⟩
  | 20 => ⟨S_, .f32⟩
  | 21 => ⟨S_, .f32⟩
  | 22 => ⟨S10000x8, .f32⟩
  | 23 => ⟨S10000x8, .i1⟩
  | 24 => ⟨S_, .f32⟩
  | 25 => ⟨S10000x8, .f32⟩
  | 26 => ⟨S10000x8, .f32⟩
  | 27 => ⟨S10000x8, .f32⟩
  | 28 => ⟨S_, .i32⟩
  | 29 => ⟨S330000, .i32⟩
  | 30 => ⟨S330000, .i1⟩
  | 31 => ⟨S_, .i32⟩
  | 32 => ⟨S330000, .i32⟩
  | 33 => ⟨S330000, .i32⟩
  | 34 => ⟨S330000, .i32⟩
  | 35 => ⟨S330000x1, .i32⟩
  | 36 => ⟨S330000x8, .f32⟩
  | 37 => ⟨S_, .i32⟩
  | 38 => ⟨S330000, .i32⟩
  | 39 => ⟨S330000, .i1⟩
  | 40 => ⟨S_, .i32⟩
  | 41 => ⟨S330000, .i32⟩
  | 42 => ⟨S330000, .i32⟩
  | 43 => ⟨S330000, .i32⟩
  | 44 => ⟨S330000x1, .i32⟩
  | 45 => ⟨S330000x8, .f32⟩
  | 46 => ⟨S330000x8, .f32⟩
  | 47 => ⟨S_, .f32⟩
  | 48 => ⟨S_, .f32⟩
  | 49 => ⟨S330000x8, .f32⟩
  | 50 => ⟨S330000x8, .i1⟩
  | 51 => ⟨S_, .f32⟩
  | 52 => ⟨S330000x8, .f32⟩
  | 53 => ⟨S330000x8, .f32⟩
  | 54 => ⟨S330000x8, .f32⟩
  | 55 => ⟨S_, .i32⟩
  | 56 => ⟨S330000, .i32⟩
  | 57 => ⟨S330000, .i1⟩
  | 58 => ⟨S_, .i32⟩
  | 59 => ⟨S330000, .i32⟩
  | 60 => ⟨S330000, .i32⟩
  | 61 => ⟨S330000, .i32⟩
  | 62 => ⟨S330000x1, .i32⟩
  | 63 => ⟨S330000x8, .f32⟩
  | 64 => ⟨S330000x8, .f32⟩
  | 65 => ⟨S330000x8, .f32⟩
  | 66 => ⟨S_, .f32⟩
  | 67 => ⟨S10000x8, .f32⟩
  | 68 => ⟨S330000x1, .i32⟩
  | 69 => ⟨S10000x8, .f32⟩
  | 70 => ⟨S_, .i32⟩
  | 71 => ⟨S330000, .i32⟩
  | 72 => ⟨S330000, .i1⟩
  | 73 => ⟨S_, .i32⟩
  | 74 => ⟨S330000, .i32⟩
  | 75 => ⟨S330000, .i32⟩
  | 76 => ⟨S330000, .i32⟩
  | 77 => ⟨S330000x1, .i32⟩
  | 78 => ⟨S330000x8x64, .f32⟩
  | 79 => ⟨S330000x8x1, .f32⟩
  | 80 => ⟨S330000x8x64, .f32⟩
  | 81 => ⟨S330000x8x64, .f32⟩
  | 82 => ⟨S_, .f32⟩
  | 83 => ⟨S10000x8x64, .f32⟩
  | 84 => ⟨S330000x1, .i32⟩
  | 85 => ⟨S10000x8x64, .f32⟩
  | 86 => ⟨S10000x8x1, .f32⟩
  | 87 => ⟨S_, .f32⟩
  | 88 => ⟨S10000x8x1, .f32⟩
  | 89 => ⟨S10000x8x1, .f32⟩
  | 90 => ⟨S10000x8x64, .f32⟩
  | 91 => ⟨S10000x8x64, .f32⟩
  | 92 => ⟨S10000x512, .f32⟩
  | 93 => ⟨S1x512, .f32⟩
  | 94 => ⟨S10000x512, .f32⟩
  | 95 => ⟨S10000x512, .f32⟩
  | 96 => ⟨S_, .f32⟩
  | 97 => ⟨S10000x512, .f32⟩
  | 98 => ⟨S10000x512, .i1⟩
  | 99 => ⟨S_, .f32⟩
  | 100 => ⟨S10000x512, .f32⟩
  | 101 => ⟨S10000x512, .i1⟩
  | 102 => ⟨S_, .f32⟩
  | 103 => ⟨S_, .f32⟩
  | 104 => ⟨S10000x512, .f32⟩
  | 105 => ⟨S10000x512, .f32⟩
  | 106 => ⟨S10000x512, .f32⟩
  | 107 => ⟨S_, .f32⟩
  | 108 => ⟨S10000x512, .f32⟩
  | 109 => ⟨S10000x512, .f32⟩
  | 110 => ⟨S10000x512, .f32⟩
  | 111 => ⟨S_, .f32⟩
  | 112 => ⟨S512, .f32⟩
  | 113 => ⟨S10000x512, .f32⟩
  | 114 => ⟨S10000x8x64, .f32⟩
  | 115 => ⟨S1x8x64, .f32⟩
  | 116 => ⟨S10000x8x64, .f32⟩
  | 117 => ⟨S10000x8x64, .f32⟩
  | 118 => ⟨S_, .f32⟩
  | 119 => ⟨S10000x8, .f32⟩
  | 120 => ⟨S1x8x64, .f32⟩
  | 121 => ⟨S10000x8x64, .f32⟩
  | 122 => ⟨S10000x8x64, .f32⟩
  | 123 => ⟨S_, .f32⟩
  | 124 => ⟨S10000x8, .f32⟩
  | 125 => ⟨S_, .f32⟩
  | 126 => ⟨S8, .f32⟩
  | 127 => ⟨S1x8, .f32⟩
  | _ => ⟨S10000x128, .f32⟩

abbrev hbmTy0_2 (i : Nat) : BufTy := match i % 128 with
  | 0 => ⟨S10000x8, .f32⟩
  | 1 => ⟨S10000x8, .f32⟩
  | 2 => ⟨S_, .f32⟩
  | 3 => ⟨S_, .f32⟩
  | 4 => ⟨S10000x8, .f32⟩
  | 5 => ⟨S10000x8, .i1⟩
  | 6 => ⟨S_, .f32⟩
  | 7 => ⟨S10000x8, .f32⟩
  | 8 => ⟨S10000x8, .f32⟩
  | 9 => ⟨S10000x8, .f32⟩
  | 10 => ⟨S_, .i32⟩
  | 11 => ⟨S330000, .i32⟩
  | 12 => ⟨S330000, .i1⟩
  | 13 => ⟨S_, .i32⟩
  | 14 => ⟨S330000, .i32⟩
  | 15 => ⟨S330000, .i32⟩
  | 16 => ⟨S330000, .i32⟩
  | 17 => ⟨S330000x1, .i32⟩
  | 18 => ⟨S330000x8, .f32⟩
  | 19 => ⟨S_, .i32⟩
  | 20 => ⟨S330000, .i32⟩
  | 21 => ⟨S330000, .i1⟩
  | 22 => ⟨S_, .i32⟩
  | 23 => ⟨S330000, .i32⟩
  | 24 => ⟨S330000, .i32⟩
  | 25 => ⟨S330000, .i32⟩
  | 26 => ⟨S330000x1, .i32⟩
  | 27 => ⟨S330000x8, .f32⟩
  | 28 => ⟨S330000x8, .f32⟩
  | 29 => ⟨S_, .f32⟩
  | 30 => ⟨S_, .f32⟩
  | 31 => ⟨S330000x8, .f32⟩
  | 32 => ⟨S330000x8, .i1⟩
  | 33 => ⟨S_, .f32⟩
  | 34 => ⟨S330000x8, .f32⟩
  | 35 => ⟨S330000x8, .f32⟩
  | 36 => ⟨S330000x8, .f32⟩
  | 37 => ⟨S_, .i32⟩
  | 38 => ⟨S330000, .i32⟩
  | 39 => ⟨S330000, .i1⟩
  | 40 => ⟨S_, .i32⟩
  | 41 => ⟨S330000, .i32⟩
  | 42 => ⟨S330000, .i32⟩
  | 43 => ⟨S330000, .i32⟩
  | 44 => ⟨S330000x1, .i32⟩
  | 45 => ⟨S330000x8, .f32⟩
  | 46 => ⟨S330000x8, .f32⟩
  | 47 => ⟨S330000x8, .f32⟩
  | 48 => ⟨S_, .f32⟩
  | 49 => ⟨S10000x8, .f32⟩
  | 50 => ⟨S330000x1, .i32⟩
  | 51 => ⟨S10000x8, .f32⟩
  | 52 => ⟨S_, .i32⟩
  | 53 => ⟨S330000, .i32⟩
  | 54 => ⟨S330000, .i1⟩
  | 55 => ⟨S_, .i32⟩
  | 56 => ⟨S330000, .i32⟩
  | 57 => ⟨S330000, .i32⟩
  | 58 => ⟨S330000, .i32⟩
  | 59 => ⟨S330000x1, .i32⟩
  | 60 => ⟨S330000x8x64, .f32⟩
  | 61 => ⟨S330000x8x1, .f32⟩
  | 62 => ⟨S330000x8x64, .f32⟩
  | 63 => ⟨S330000x8x64, .f32⟩
  | 64 => ⟨S_, .f32⟩
  | 65 => ⟨S10000x8x64, .f32⟩
  | 66 => ⟨S330000x1, .i32⟩
  | 67 => ⟨S10000x8x64, .f32⟩
  | 68 => ⟨S10000x8x1, .f32⟩
  | 69 => ⟨S_, .f32⟩
  | 70 => ⟨S10000x8x1, .f32⟩
  | 71 => ⟨S10000x8x1, .f32⟩
  | 72 => ⟨S10000x8x64, .f32⟩
  | 73 => ⟨S10000x8x64, .f32⟩
  | 74 => ⟨S10000x512, .f32⟩
  | 75 => ⟨S1x512, .f32⟩
  | 76 => ⟨S10000x512, .f32⟩
  | 77 => ⟨S10000x512, .f32⟩
  | 78 => ⟨S_, .f32⟩
  | 79 => ⟨S10000x512, .f32⟩
  | 80 => ⟨S10000x512, .i1⟩
  | 81 => ⟨S_, .f32⟩
  | 82 => ⟨S10000x512, .f32⟩
  | 83 => ⟨S10000x512, .i1⟩
  | 84 => ⟨S_, .f32⟩
  | 85 => ⟨S_, .f32⟩
  | 86 => ⟨S10000x512, .f32⟩
  | 87 => ⟨S10000x512, .f32⟩
  | 88 => ⟨S10000x512, .f32⟩
  | 89 => ⟨S_, .f32⟩
  | 90 => ⟨S10000x512, .f32⟩
  | 91 => ⟨S10000x512, .f32⟩
  | 92 => ⟨S10000x512, .f32⟩
  | 93 => ⟨S_, .f32⟩
  | 94 => ⟨S64, .f32⟩
  | 95 => ⟨S10000x64, .f32⟩
  | 96 => ⟨S10000x1x64, .f32⟩
  | 97 => ⟨S1x1x64, .f32⟩
  | 98 => ⟨S10000x1x64, .f32⟩
  | 99 => ⟨S10000x1x64, .f32⟩
  | 100 => ⟨S_, .f32⟩
  | 101 => ⟨S10000x1, .f32⟩
  | 102 => ⟨S1x1x64, .f32⟩
  | 103 => ⟨S10000x1x64, .f32⟩
  | 104 => ⟨S10000x1x64, .f32⟩
  | 105 => ⟨S_, .f32⟩
  | 106 => ⟨S10000x1, .f32⟩
  | 107 => ⟨S_, .f32⟩
  | 108 => ⟨S1, .f32⟩
  | 109 => ⟨S1x1, .f32⟩
  | 110 => ⟨S10000x1, .f32⟩
  | 111 => ⟨S10000x1, .f32⟩
  | 112 => ⟨S_, .f32⟩
  | 113 => ⟨S_, .f32⟩
  | 114 => ⟨S10000x1, .f32⟩
  | 115 => ⟨S10000x1, .i1⟩
  | 116 => ⟨S_, .f32⟩
  | 117 => ⟨S10000x1, .f32⟩
  | 118 => ⟨S10000x1, .f32⟩
  | 119 => ⟨S10000x1, .f32⟩
  | 120 => ⟨S_, .i32⟩
  | 121 => ⟨S330000, .i32⟩
  | 122 => ⟨S330000, .i1⟩
  | 123 => ⟨S_, .i32⟩
  | 124 => ⟨S330000, .i32⟩
  | 125 => ⟨S330000, .i32⟩
  | 126 => ⟨S330000, .i32⟩
  | 127 => ⟨S330000x1, .i32⟩
  | _ => ⟨S10000x128, .f32⟩

abbrev hbmTy0_3 (i : Nat) : BufTy := match i % 128 with
  | 0 => ⟨S330000x1, .f32⟩
  | 1 => ⟨S_, .i32⟩
  | 2 => ⟨S330000, .i32⟩
  | 3 => ⟨S330000, .i1⟩
  | 4 => ⟨S_, .i32⟩
  | 5 => ⟨S330000, .i32⟩
  | 6 => ⟨S330000, .i32⟩
  | 7 => ⟨S330000, .i32⟩
  | 8 => ⟨S330000x1, .i32⟩
  | 9 => ⟨S330000x1, .f32⟩
  | 10 => ⟨S330000x1, .f32⟩
  | 11 => ⟨S_, .f32⟩
  | 12 => ⟨S_, .f32⟩
  | 13 => ⟨S330000x1, .f32⟩
  | 14 => ⟨S330000x1, .i1⟩
  | 15 => ⟨S_, .f32⟩
  | 16 => ⟨S330000x1, .f32⟩
  | 17 => ⟨S330000x1, .f32⟩
  | 18 => ⟨S330000x1, .f32⟩
  | 19 => ⟨S_, .i32⟩
  | 20 => ⟨S330000, .i32⟩
  | 21 => ⟨S330000, .i1⟩
  | 22 => ⟨S_, .i32⟩
  | 23 => ⟨S330000, .i32⟩
  | 24 => ⟨S330000, .i32⟩
  | 25 => ⟨S330000, .i32⟩
  | 26 => ⟨S330000x1, .i32⟩
  | 27 => ⟨S330000x1, .f32⟩
  | 28 => ⟨S330000x1, .f32⟩
  | 29 => ⟨S330000x1, .f32⟩
  | 30 => ⟨S_, .f32⟩
  | 31 => ⟨S10000x1, .f32⟩
  | 32 => ⟨S330000x1, .i32⟩
  | 33 => ⟨S10000x1, .f32⟩
  | 34 => ⟨S_, .i32⟩
  | 35 => ⟨S330000, .i32⟩
  | 36 => ⟨S330000, .i1⟩
  | 37 => ⟨S_, .i32⟩
  | 38 => ⟨S330000, .i32⟩
  | 39 => ⟨S330000, .i32⟩
  | 40 => ⟨S330000, .i32⟩
  | 41 => ⟨S330000x1, .i32⟩
  | 42 => ⟨S330000x1x64, .f32⟩
  | 43 => ⟨S330000x1x1, .f32⟩
  | 44 => ⟨S330000x1x64, .f32⟩
  | 45 => ⟨S330000x1x64, .f32⟩
  | 46 => ⟨S_, .f32⟩
  | 47 => ⟨S10000x1x64, .f32⟩
  | 48 => ⟨S330000x1, .i32⟩
  | 49 => ⟨S10000x1x64, .f32⟩
  | 50 => ⟨S10000x1x1, .f32⟩
  | 51 => ⟨S_, .f32⟩
  | 52 => ⟨S10000x1x1, .f32⟩
  | 53 => ⟨S10000x1x1, .f32⟩
  | 54 => ⟨S10000x1x64, .f32⟩
  | 55 => ⟨S10000x1x64, .f32⟩
  | 56 => ⟨S_, .f32⟩
  | 57 => ⟨S10000x64, .f32⟩
  | 58 => ⟨S_, .f32⟩
  | 59 => ⟨S10000x64, .f32⟩
  | 60 => ⟨S10000x64, .f32⟩
  | 61 => ⟨S1x64, .f32⟩
  | 62 => ⟨S10000x64, .f32⟩
  | 63 => ⟨S10000x64, .f32⟩
  | 64 => ⟨S_, .f32⟩
  | 65 => ⟨S10000, .f32⟩
  | 66 => ⟨S_, .f32⟩
  | 67 => ⟨S10000, .f32⟩
  | 68 => ⟨S10000, .f32⟩
  | 69 => ⟨S10000x1, .f32⟩
  | 70 => ⟨S10000x64, .f32⟩
  | 71 => ⟨S10000x64, .f32⟩
  | 72 => ⟨S10000x64, .f32⟩
  | 73 => ⟨S_, .f32⟩
  | 74 => ⟨S10000, .f32⟩
  | 75 => ⟨S10000x1, .f32⟩
  | 76 => ⟨S10000x1, .f32⟩
  | 77 => ⟨S10000x64, .f32⟩
  | 78 => ⟨S10000x64, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S64x64, .f32⟩
  | .local _ .vmem, ⟨9, _⟩ => ⟨S64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x512, .f32⟩
  | .local _ .vmem, ⟨15, _⟩ => ⟨S512, .f32⟩
  | .local _ .vmem, ⟨16, _⟩ => ⟨S2000x512, .f32⟩
  | .local _ .vmem, ⟨17, _⟩ => ⟨S2000x512, .f32⟩
  | .local _ .vmem, ⟨18, _⟩ => ⟨S2000x512, .f32⟩
  | .local _ .vmem, ⟨19, _⟩ => ⟨S2000x512, .f32⟩
  | .local _ .vmem, ⟨20, _⟩ => ⟨S512x512, .f32⟩
  | .local _ .vmem, ⟨21, _⟩ => ⟨S512, .f32⟩
  | .local _ .vmem, ⟨22, _⟩ => ⟨S2000x512, .f32⟩
  | .local _ .vmem, ⟨23, _⟩ => ⟨S2000x512, .f32⟩
  | .local _ .vmem, ⟨24, _⟩ => ⟨S2000x512, .f32⟩
  | .local _ .vmem, ⟨25, _⟩ => ⟨S2000x512, .f32⟩
  | .local _ .vmem, ⟨26, _⟩ => ⟨S512x64, .f32⟩
  | .local _ .vmem, ⟨27, _⟩ => ⟨S64, .f32⟩
  | .local _ .vmem, ⟨28, _⟩ => ⟨S2000x64, .f32⟩
  | .local _ .vmem, ⟨29, _⟩ => ⟨S2000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_v16 : Ref sig .tc := ⟨.hbm, 41, rfl⟩
abbrev main_cst_4 : Ref sig .tc := ⟨.hbm, 42, rfl⟩
abbrev main_v17 : Ref sig .tc := ⟨.hbm, 43, rfl⟩
abbrev main_v18 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v19 : Ref sig .tc := ⟨.hbm, 48, rfl⟩
abbrev main_cst_6 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c : Ref sig .tc := ⟨.hbm, 55, rfl⟩
abbrev main_v25 : Ref sig .tc := ⟨.hbm, 56, rfl⟩
abbrev main_v26 : Ref sig .tc := ⟨.hbm, 57, rfl⟩
abbrev main_c_7 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_8 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_cst_0 : Ref sig .tc := ⟨.hbm, 77, rfl⟩
abbrev main_call2_v2 : Ref sig .tc := ⟨.hbm, 78, rfl⟩
abbrev main_call2_v3 : Ref sig .tc := ⟨.hbm, 79, rfl⟩
abbrev main_call2_cst_1 : Ref sig .tc := ⟨.hbm, 80, rfl⟩
abbrev main_call2_call0_v0 : Ref sig .tc := ⟨.hbm, 81, rfl⟩
abbrev main_call2_call0_v1 : Ref sig .tc := ⟨.hbm, 82, rfl⟩
abbrev main_call2_v4 : Ref sig .tc := ⟨.hbm, 83, rfl⟩
abbrev main_call2_v5 : Ref sig .tc := ⟨.hbm, 84, rfl⟩
abbrev main_call2_cst_2 : Ref sig .tc := ⟨.hbm, 85, rfl⟩
abbrev main_call2_v6 : Ref sig .tc := ⟨.hbm, 86, rfl⟩
abbrev main_call2_v7 : Ref sig .tc := ⟨.hbm, 87, rfl⟩
abbrev main_v41 : Ref sig .tc := ⟨.hbm, 88, rfl⟩
abbrev main_cst_9 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_c_10 : Ref sig .tc := ⟨.hbm, 95, rfl⟩
abbrev main_v47 : Ref sig .tc := ⟨.hbm, 96, rfl⟩
abbrev main_v48 : Ref sig .tc := ⟨.hbm, 97, rfl⟩
abbrev main_c_11 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_12 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_cst_0 : Ref sig .tc := ⟨.hbm, 117, rfl⟩
abbrev main_call3_v2 : Ref sig .tc := ⟨.hbm, 118, rfl⟩
abbrev main_call3_v3 : Ref sig .tc := ⟨.hbm, 119, rfl⟩
abbrev main_call3_cst_1 : Ref sig .tc := ⟨.hbm, 120, rfl⟩
abbrev main_call3_call0_v0 : Ref sig .tc := ⟨.hbm, 121, rfl⟩
abbrev main_call3_call0_v1 : Ref sig .tc := ⟨.hbm, 122, rfl⟩
abbrev main_call3_v4 : Ref sig .tc := ⟨.hbm, 123, rfl⟩
abbrev main_call3_v5 : Ref sig .tc := ⟨.hbm, 124, rfl⟩
abbrev main_call3_cst_2 : Ref sig .tc := ⟨.hbm, 125, rfl⟩
abbrev main_call3_v6 : Ref sig .tc := ⟨.hbm, 126, rfl⟩
abbrev main_call3_v7 : Ref sig .tc := ⟨.hbm, 127, rfl⟩
abbrev main_v63 : Ref sig .tc := ⟨.hbm, 128, rfl⟩
abbrev main_cst_13 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_14 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_cst_15 : Ref sig .tc := ⟨.hbm, 141, rfl⟩
abbrev main_v74 : Ref sig .tc := ⟨.hbm, 142, rfl⟩
abbrev main_cst_16 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_cst_17 : Ref sig .tc := ⟨.hbm, 148, rfl⟩
abbrev main_call4_cst : Ref sig .tc := ⟨.hbm, 149, rfl⟩
abbrev main_call4_v0 : Ref sig .tc := ⟨.hbm, 150, rfl⟩
abbrev main_call4_v1 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_v79 : Ref sig .tc := ⟨.hbm, 155, rfl⟩
abbrev main_c_18 : Ref sig .tc := ⟨.hbm, 156, rfl⟩
abbrev main_v80 : Ref sig .tc := ⟨.hbm, 157, rfl⟩
abbrev main_v81 : Ref sig .tc := ⟨.hbm, 158, rfl⟩
abbrev main_c_19 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_c_20 : Ref sig .tc := ⟨.hbm, 165, rfl⟩
abbrev main_v87 : Ref sig .tc := ⟨.hbm, 166, rfl⟩
abbrev main_v88 : Ref sig .tc := ⟨.hbm, 167, rfl⟩
abbrev main_c_21 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_cst_22 : Ref sig .tc := ⟨.hbm, 175, rfl⟩
abbrev main_call5_cst : Ref sig .tc := ⟨.hbm, 176, rfl⟩
abbrev main_call5_v0 : Ref sig .tc := ⟨.hbm, 177, rfl⟩
abbrev main_call5_v1 : Ref sig .tc := ⟨.hbm, 178, rfl⟩
abbrev main_call5_v2 : Ref sig .tc := ⟨.hbm, 179, rfl⟩
abbrev main_call5_v3 : Ref sig .tc := ⟨.hbm, 180, rfl⟩
abbrev main_call5_v4 : Ref sig .tc := ⟨.hbm, 181, rfl⟩
abbrev main_v95 : Ref sig .tc := ⟨.hbm, 182, rfl⟩
abbrev main_c_23 : Ref sig .tc := ⟨.hbm, 183, rfl⟩
abbrev main_v96 : Ref sig .tc := ⟨.hbm, 184, rfl⟩
abbrev main_v97 : Ref sig .tc := ⟨.hbm, 185, rfl⟩
abbrev main_c_24 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_cst_25 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_c_26 : Ref sig .tc := ⟨.hbm, 198, rfl⟩
abbrev main_v108 : Ref sig .tc := ⟨.hbm, 199, rfl⟩
abbrev main_v109 : Ref sig .tc := ⟨.hbm, 200, rfl⟩
abbrev main_c_27 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_28 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_cst_29 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_call6_cst : Ref sig .tc := ⟨.hbm, 224, rfl⟩
abbrev main_call6_v0 : Ref sig .tc := ⟨.hbm, 225, rfl⟩
abbrev main_call6_v1 : Ref sig .tc := ⟨.hbm, 226, rfl⟩
abbrev main_call6_cst_0 : Ref sig .tc := ⟨.hbm, 227, rfl⟩
abbrev main_call6_v2 : Ref sig .tc := ⟨.hbm, 228, rfl⟩
abbrev main_call6_v3 : Ref sig .tc := ⟨.hbm, 229, rfl⟩
abbrev main_call6_cst_1 : Ref sig .tc := ⟨.hbm, 230, rfl⟩
abbrev main_call6_call0_v0 : Ref sig .tc := ⟨.hbm, 231, rfl⟩
abbrev main_call6_call0_v1 : Ref sig .tc := ⟨.hbm, 232, rfl⟩
abbrev main_call6_v4 : Ref sig .tc := ⟨.hbm, 233, rfl⟩
abbrev main_call6_v5 : Ref sig .tc := ⟨.hbm, 234, rfl⟩
abbrev main_call6_cst_2 : Ref sig .tc := ⟨.hbm, 235, rfl⟩
abbrev main_call6_v6 : Ref sig .tc := ⟨.hbm, 236, rfl⟩
abbrev main_call6_v7 : Ref sig .tc := ⟨.hbm, 237, rfl⟩
abbrev main_v130 : Ref sig .tc := ⟨.hbm, 238, rfl⟩
abbrev main_cst_30 : Ref sig .tc := ⟨.hbm, 239, rfl⟩
abbrev main_v131 : Ref sig .tc := ⟨.hbm, 240, rfl⟩
abbrev main_v132 : Ref sig .tc := ⟨.hbm, 241, rfl⟩
abbrev main_v133 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_cst_31 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_cst_32 : Ref sig .tc := ⟨.hbm, 251, rfl⟩
abbrev main_v141 : Ref sig .tc := ⟨.hbm, 252, rfl⟩
abbrev main_cst_33 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_cst_34 : Ref sig .tc := ⟨.hbm, 258, rfl⟩
abbrev main_call7_cst : Ref sig .tc := ⟨.hbm, 259, rfl⟩
abbrev main_call7_v0 : Ref sig .tc := ⟨.hbm, 260, rfl⟩
abbrev main_call7_v1 : Ref sig .tc := ⟨.hbm, 261, rfl⟩
abbrev main_call7_v2 : Ref sig .tc := ⟨.hbm, 262, rfl⟩
abbrev main_call7_v3 : Ref sig .tc := ⟨.hbm, 263, rfl⟩
abbrev main_call7_v4 : Ref sig .tc := ⟨.hbm, 264, rfl⟩
abbrev main_v146 : Ref sig .tc := ⟨.hbm, 265, rfl⟩
abbrev main_c_35 : Ref sig .tc := ⟨.hbm, 266, rfl⟩
abbrev main_v147 : Ref sig .tc := ⟨.hbm, 267, rfl⟩
abbrev main_v148 : Ref sig .tc := ⟨.hbm, 268, rfl⟩
abbrev main_c_36 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_c_37 : Ref sig .tc := ⟨.hbm, 275, rfl⟩
abbrev main_v154 : Ref sig .tc := ⟨.hbm, 276, rfl⟩
abbrev main_v155 : Ref sig .tc := ⟨.hbm, 277, rfl⟩
abbrev main_c_38 : Ref sig .tc := ⟨.hbm, 278, rfl⟩
abbrev main_v156 : Ref sig .tc := ⟨.hbm, 279, rfl⟩
abbrev main_v157 : Ref sig .tc := ⟨.hbm, 280, rfl⟩
abbrev main_v158 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_cst_39 : Ref sig .tc := ⟨.hbm, 285, rfl⟩
abbrev main_call8_cst : Ref sig .tc := ⟨.hbm, 286, rfl⟩
abbrev main_call8_v0 : Ref sig .tc := ⟨.hbm, 287, rfl⟩
abbrev main_call8_v1 : Ref sig .tc := ⟨.hbm, 288, rfl⟩
abbrev main_call8_v2 : Ref sig .tc := ⟨.hbm, 289, rfl⟩
abbrev main_call8_v3 : Ref sig .tc := ⟨.hbm, 290, rfl⟩
abbrev main_call8_v4 : Ref sig .tc := ⟨.hbm, 291, rfl⟩
abbrev main_v162 : Ref sig .tc := ⟨.hbm, 292, rfl⟩
abbrev main_c_40 : Ref sig .tc := ⟨.hbm, 293, rfl⟩
abbrev main_v163 : Ref sig .tc := ⟨.hbm, 294, rfl⟩
abbrev main_v164 : Ref sig .tc := ⟨.hbm, 295, rfl⟩
abbrev main_c_41 : Ref sig .tc := ⟨.hbm, 296, rfl⟩
abbrev main_v165 : Ref sig .tc := ⟨.hbm, 297, rfl⟩
abbrev main_v166 : Ref sig .tc := ⟨.hbm, 298, rfl⟩
abbrev main_v167 : Ref sig .tc := ⟨.hbm, 299, rfl⟩
abbrev main_v168 : Ref sig .tc := ⟨.hbm, 300, rfl⟩
abbrev main_v169 : Ref sig .tc := ⟨.hbm, 301, rfl⟩
abbrev main_v170 : Ref sig .tc := ⟨.hbm, 302, rfl⟩
abbrev main_v171 : Ref sig .tc := ⟨.hbm, 303, rfl⟩
abbrev main_cst_42 : Ref sig .tc := ⟨.hbm, 304, rfl⟩
abbrev main_v172 : Ref sig .tc := ⟨.hbm, 305, rfl⟩
abbrev main_v173 : Ref sig .tc := ⟨.hbm, 306, rfl⟩
abbrev main_v174 : Ref sig .tc := ⟨.hbm, 307, rfl⟩
abbrev main_c_43 : Ref sig .tc := ⟨.hbm, 308, rfl⟩
abbrev main_v175 : Ref sig .tc := ⟨.hbm, 309, rfl⟩
abbrev main_v176 : Ref sig .tc := ⟨.hbm, 310, rfl⟩
abbrev main_c_44 : Ref sig .tc := ⟨.hbm, 311, rfl⟩
abbrev main_v177 : Ref sig .tc := ⟨.hbm, 312, rfl⟩
abbrev main_v178 : Ref sig .tc := ⟨.hbm, 313, rfl⟩
abbrev main_v179 : Ref sig .tc := ⟨.hbm, 314, rfl⟩
abbrev main_v180 : Ref sig .tc := ⟨.hbm, 315, rfl⟩
abbrev main_v181 : Ref sig .tc := ⟨.hbm, 316, rfl⟩
abbrev main_v182 : Ref sig .tc := ⟨.hbm, 317, rfl⟩
abbrev main_v183 : Ref sig .tc := ⟨.hbm, 318, rfl⟩
abbrev main_v184 : Ref sig .tc := ⟨.hbm, 319, rfl⟩
abbrev main_cst_45 : Ref sig .tc := ⟨.hbm, 320, rfl⟩
abbrev main_v185 : Ref sig .tc := ⟨.hbm, 321, rfl⟩
abbrev main_v186 : Ref sig .tc := ⟨.hbm, 322, rfl⟩
abbrev main_v187 : Ref sig .tc := ⟨.hbm, 323, rfl⟩
abbrev main_v188 : Ref sig .tc := ⟨.hbm, 324, rfl⟩
abbrev main_cst_46 : Ref sig .tc := ⟨.hbm, 325, rfl⟩
abbrev main_v189 : Ref sig .tc := ⟨.hbm, 326, rfl⟩
abbrev main_v190 : Ref sig .tc := ⟨.hbm, 327, rfl⟩
abbrev main_v191 : Ref sig .tc := ⟨.hbm, 328, rfl⟩
abbrev main_v192 : Ref sig .tc := ⟨.hbm, 329, rfl⟩
abbrev main_v193 : Ref sig .tc := ⟨.hbm, 330, rfl⟩
abbrev main_v194 : Ref sig .tc := ⟨.hbm, 331, rfl⟩
abbrev main_v195 : Ref sig .tc := ⟨.hbm, 332, rfl⟩
abbrev main_v196 : Ref sig .tc := ⟨.hbm, 333, rfl⟩
abbrev main_call9_cst : Ref sig .tc := ⟨.hbm, 334, rfl⟩
abbrev main_call9_v0 : Ref sig .tc := ⟨.hbm, 335, rfl⟩
abbrev main_call9_v1 : Ref sig .tc := ⟨.hbm, 336, rfl⟩
abbrev main_call9_cst_0 : Ref sig .tc := ⟨.hbm, 337, rfl⟩
abbrev main_call9_v2 : Ref sig .tc := ⟨.hbm, 338, rfl⟩
abbrev main_call9_v3 : Ref sig .tc := ⟨.hbm, 339, rfl⟩
abbrev main_call9_cst_1 : Ref sig .tc := ⟨.hbm, 340, rfl⟩
abbrev main_call9_call0_v0 : Ref sig .tc := ⟨.hbm, 341, rfl⟩
abbrev main_call9_call0_v1 : Ref sig .tc := ⟨.hbm, 342, rfl⟩
abbrev main_call9_v4 : Ref sig .tc := ⟨.hbm, 343, rfl⟩
abbrev main_call9_v5 : Ref sig .tc := ⟨.hbm, 344, rfl⟩
abbrev main_call9_cst_2 : Ref sig .tc := ⟨.hbm, 345, rfl⟩
abbrev main_call9_v6 : Ref sig .tc := ⟨.hbm, 346, rfl⟩
abbrev main_call9_v7 : Ref sig .tc := ⟨.hbm, 347, rfl⟩
abbrev main_v197 : Ref sig .tc := ⟨.hbm, 348, rfl⟩
abbrev main_cst_47 : Ref sig .tc := ⟨.hbm, 349, rfl⟩
abbrev main_v198 : Ref sig .tc := ⟨.hbm, 350, rfl⟩
abbrev main_v199 : Ref sig .tc := ⟨.hbm, 351, rfl⟩
abbrev main_v200 : Ref sig .tc := ⟨.hbm, 352, rfl⟩
abbrev main_v201 : Ref sig .tc := ⟨.hbm, 353, rfl⟩
abbrev main_v202 : Ref sig .tc := ⟨.hbm, 354, rfl⟩
abbrev main_v203 : Ref sig .tc := ⟨.hbm, 355, rfl⟩
abbrev main_cst_48 : Ref sig .tc := ⟨.hbm, 356, rfl⟩
abbrev main_v204 : Ref sig .tc := ⟨.hbm, 357, rfl⟩
abbrev main_v205 : Ref sig .tc := ⟨.hbm, 358, rfl⟩
abbrev main_v206 : Ref sig .tc := ⟨.hbm, 359, rfl⟩
abbrev main_v207 : Ref sig .tc := ⟨.hbm, 360, rfl⟩
abbrev main_cst_49 : Ref sig .tc := ⟨.hbm, 361, rfl⟩
abbrev main_v208 : Ref sig .tc := ⟨.hbm, 362, rfl⟩
abbrev main_cst_50 : Ref sig .tc := ⟨.hbm, 363, rfl⟩
abbrev main_v209 : Ref sig .tc := ⟨.hbm, 364, rfl⟩
abbrev main_v210 : Ref sig .tc := ⟨.hbm, 365, rfl⟩
abbrev main_v211 : Ref sig .tc := ⟨.hbm, 366, rfl⟩
abbrev main_v212 : Ref sig .tc := ⟨.hbm, 367, rfl⟩
abbrev main_cst_51 : Ref sig .tc := ⟨.hbm, 368, rfl⟩
abbrev main_call10_cst : Ref sig .tc := ⟨.hbm, 369, rfl⟩
abbrev main_call10_v0 : Ref sig .tc := ⟨.hbm, 370, rfl⟩
abbrev main_call10_v1 : Ref sig .tc := ⟨.hbm, 371, rfl⟩
abbrev main_call10_v2 : Ref sig .tc := ⟨.hbm, 372, rfl⟩
abbrev main_call10_v3 : Ref sig .tc := ⟨.hbm, 373, rfl⟩
abbrev main_call10_v4 : Ref sig .tc := ⟨.hbm, 374, rfl⟩
abbrev main_v213 : Ref sig .tc := ⟨.hbm, 375, rfl⟩
abbrev main_c_52 : Ref sig .tc := ⟨.hbm, 376, rfl⟩
abbrev main_v214 : Ref sig .tc := ⟨.hbm, 377, rfl⟩
abbrev main_v215 : Ref sig .tc := ⟨.hbm, 378, rfl⟩
abbrev main_c_53 : Ref sig .tc := ⟨.hbm, 379, rfl⟩
abbrev main_v216 : Ref sig .tc := ⟨.hbm, 380, rfl⟩
abbrev main_v217 : Ref sig .tc := ⟨.hbm, 381, rfl⟩
abbrev main_v218 : Ref sig .tc := ⟨.hbm, 382, rfl⟩
abbrev main_v219 : Ref sig .tc := ⟨.hbm, 383, rfl⟩
abbrev main_v220 : Ref sig .tc := ⟨.hbm, 384, rfl⟩
abbrev main_c_54 : Ref sig .tc := ⟨.hbm, 385, rfl⟩
abbrev main_v221 : Ref sig .tc := ⟨.hbm, 386, rfl⟩
abbrev main_v222 : Ref sig .tc := ⟨.hbm, 387, rfl⟩
abbrev main_c_55 : Ref sig .tc := ⟨.hbm, 388, rfl⟩
abbrev main_v223 : Ref sig .tc := ⟨.hbm, 389, rfl⟩
abbrev main_v224 : Ref sig .tc := ⟨.hbm, 390, rfl⟩
abbrev main_v225 : Ref sig .tc := ⟨.hbm, 391, rfl⟩
abbrev main_v226 : Ref sig .tc := ⟨.hbm, 392, rfl⟩
abbrev main_v227 : Ref sig .tc := ⟨.hbm, 393, rfl⟩
abbrev main_v228 : Ref sig .tc := ⟨.hbm, 394, rfl⟩
abbrev main_cst_56 : Ref sig .tc := ⟨.hbm, 395, rfl⟩
abbrev main_call11_cst : Ref sig .tc := ⟨.hbm, 396, rfl⟩
abbrev main_call11_v0 : Ref sig .tc := ⟨.hbm, 397, rfl⟩
abbrev main_call11_v1 : Ref sig .tc := ⟨.hbm, 398, rfl⟩
abbrev main_call11_v2 : Ref sig .tc := ⟨.hbm, 399, rfl⟩
abbrev main_call11_v3 : Ref sig .tc := ⟨.hbm, 400, rfl⟩
abbrev main_call11_v4 : Ref sig .tc := ⟨.hbm, 401, rfl⟩
abbrev main_v229 : Ref sig .tc := ⟨.hbm, 402, rfl⟩
abbrev main_c_57 : Ref sig .tc := ⟨.hbm, 403, rfl⟩
abbrev main_v230 : Ref sig .tc := ⟨.hbm, 404, rfl⟩
abbrev main_v231 : Ref sig .tc := ⟨.hbm, 405, rfl⟩
abbrev main_c_58 : Ref sig .tc := ⟨.hbm, 406, rfl⟩
abbrev main_v232 : Ref sig .tc := ⟨.hbm, 407, rfl⟩
abbrev main_v233 : Ref sig .tc := ⟨.hbm, 408, rfl⟩
abbrev main_v234 : Ref sig .tc := ⟨.hbm, 409, rfl⟩
abbrev main_v235 : Ref sig .tc := ⟨.hbm, 410, rfl⟩
abbrev main_v236 : Ref sig .tc := ⟨.hbm, 411, rfl⟩
abbrev main_v237 : Ref sig .tc := ⟨.hbm, 412, rfl⟩
abbrev main_v238 : Ref sig .tc := ⟨.hbm, 413, rfl⟩
abbrev main_cst_59 : Ref sig .tc := ⟨.hbm, 414, rfl⟩
abbrev main_v239 : Ref sig .tc := ⟨.hbm, 415, rfl⟩
abbrev main_v240 : Ref sig .tc := ⟨.hbm, 416, rfl⟩
abbrev main_v241 : Ref sig .tc := ⟨.hbm, 417, rfl⟩
abbrev main_c_60 : Ref sig .tc := ⟨.hbm, 418, rfl⟩
abbrev main_v242 : Ref sig .tc := ⟨.hbm, 419, rfl⟩
abbrev main_v243 : Ref sig .tc := ⟨.hbm, 420, rfl⟩
abbrev main_c_61 : Ref sig .tc := ⟨.hbm, 421, rfl⟩
abbrev main_v244 : Ref sig .tc := ⟨.hbm, 422, rfl⟩
abbrev main_v245 : Ref sig .tc := ⟨.hbm, 423, rfl⟩
abbrev main_v246 : Ref sig .tc := ⟨.hbm, 424, rfl⟩
abbrev main_v247 : Ref sig .tc := ⟨.hbm, 425, rfl⟩
abbrev main_v248 : Ref sig .tc := ⟨.hbm, 426, rfl⟩
abbrev main_v249 : Ref sig .tc := ⟨.hbm, 427, rfl⟩
abbrev main_v250 : Ref sig .tc := ⟨.hbm, 428, rfl⟩
abbrev main_v251 : Ref sig .tc := ⟨.hbm, 429, rfl⟩
abbrev main_cst_62 : Ref sig .tc := ⟨.hbm, 430, rfl⟩
abbrev main_v252 : Ref sig .tc := ⟨.hbm, 431, rfl⟩
abbrev main_v253 : Ref sig .tc := ⟨.hbm, 432, rfl⟩
abbrev main_v254 : Ref sig .tc := ⟨.hbm, 433, rfl⟩
abbrev main_v255 : Ref sig .tc := ⟨.hbm, 434, rfl⟩
abbrev main_cst_63 : Ref sig .tc := ⟨.hbm, 435, rfl⟩
abbrev main_v256 : Ref sig .tc := ⟨.hbm, 436, rfl⟩
abbrev main_v257 : Ref sig .tc := ⟨.hbm, 437, rfl⟩
abbrev main_v258 : Ref sig .tc := ⟨.hbm, 438, rfl⟩
abbrev main_v259 : Ref sig .tc := ⟨.hbm, 439, rfl⟩
abbrev main_cst_64 : Ref sig .tc := ⟨.hbm, 440, rfl⟩
abbrev main_v260 : Ref sig .tc := ⟨.hbm, 441, rfl⟩
abbrev main_cst_65 : Ref sig .tc := ⟨.hbm, 442, rfl⟩
abbrev main_v261 : Ref sig .tc := ⟨.hbm, 443, rfl⟩
abbrev main_v262 : Ref sig .tc := ⟨.hbm, 444, rfl⟩
abbrev main_v263 : Ref sig .tc := ⟨.hbm, 445, rfl⟩
abbrev main_v264 : Ref sig .tc := ⟨.hbm, 446, rfl⟩
abbrev main_v265 : Ref sig .tc := ⟨.hbm, 447, rfl⟩
abbrev main_call12_cst : Ref sig .tc := ⟨.hbm, 448, rfl⟩
abbrev main_call12_v0 : Ref sig .tc := ⟨.hbm, 449, rfl⟩
abbrev main_call12_cst_0 : Ref sig .tc := ⟨.hbm, 450, rfl⟩
abbrev main_call12_v1 : Ref sig .tc := ⟨.hbm, 451, rfl⟩
abbrev main_call12_v2 : Ref sig .tc := ⟨.hbm, 452, rfl⟩
abbrev main_call12_v3 : Ref sig .tc := ⟨.hbm, 453, rfl⟩
abbrev main_call12_v4 : Ref sig .tc := ⟨.hbm, 454, rfl⟩
abbrev main_call12_v5 : Ref sig .tc := ⟨.hbm, 455, rfl⟩
abbrev main_call12_v6 : Ref sig .tc := ⟨.hbm, 456, rfl⟩
abbrev main_call12_cst_1 : Ref sig .tc := ⟨.hbm, 457, rfl⟩
abbrev main_call12_v7 : Ref sig .tc := ⟨.hbm, 458, rfl⟩
abbrev main_call12_v8 : Ref sig .tc := ⟨.hbm, 459, rfl⟩
abbrev main_call12_v9 : Ref sig .tc := ⟨.hbm, 460, rfl⟩
abbrev main_call12_v10 : Ref sig .tc := ⟨.hbm, 461, rfl⟩
abbrev main_v266 : Ref sig .tc := ⟨.hbm, 462, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== ReferenceIdeal.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S64x512 : Shape := ⟨2, ![64, 512]⟩
abbrev S8x64 : Shape := ⟨2, ![8, 64]⟩
abbrev S512 : Shape := ⟨1, ![512]⟩
abbrev S512x512 : Shape := ⟨2, ![512, 512]⟩
abbrev S512x64 : Shape := ⟨2, ![512, 64]⟩
abbrev S1x64 : Shape := ⟨2, ![1, 64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x64 : Shape := ⟨2, ![10000, 64]⟩
abbrev S330000x64 : Shape := ⟨2, ![330000, 64]⟩
abbrev S10000x512 : Shape := ⟨2, ![10000, 512]⟩
abbrev S10000x8x64 : Shape := ⟨3, ![10000, 8, 64]⟩
abbrev S1x8x64 : Shape := ⟨3, ![1, 8, 64]⟩
abbrev S10000x8 : Shape := ⟨2, ![10000, 8]⟩
abbrev S330000x8 : Shape := ⟨2, ![330000, 8]⟩
abbrev S1x330000 : Shape := ⟨2, ![1, 330000]⟩
abbrev S10000x1 : Shape := ⟨2, ![10000, 1]⟩
abbrev S10000x330000 : Shape := ⟨2, ![10000, 330000]⟩
abbrev S10000x330000x1 : Shape := ⟨3, ![10000, 330000, 1]⟩
abbrev S1x330000x8 : Shape := ⟨3, ![1, 330000, 8]⟩
abbrev S10000x330000x8 : Shape := ⟨3, ![10000, 330000, 8]⟩
abbrev S8 : Shape := ⟨1, ![8]⟩
abbrev S1x8 : Shape := ⟨2, ![1, 8]⟩
abbrev S330000x8x64 : Shape := ⟨3, ![330000, 8, 64]⟩
abbrev S330000x8x1 : Shape := ⟨3, ![330000, 8, 1]⟩
abbrev S1x512 : Shape := ⟨2, ![1, 512]⟩
abbrev S10000x1x64 : Shape := ⟨3, ![10000, 1, 64]⟩
abbrev S1x1x64 : Shape := ⟨3, ![1, 1, 64]⟩
abbrev S1x330000x1 : Shape := ⟨3, ![1, 330000, 1]⟩
abbrev S1 : Shape := ⟨1, ![1]⟩
abbrev S1x1 : Shape := ⟨2, ![1, 1]⟩
abbrev S330000x1x64 : Shape := ⟨3, ![330000, 1, 64]⟩
abbrev S330000x1x1 : Shape := ⟨3, ![330000, 1, 1]⟩

abbrev nBuf : Space → Nat
  | .hbm => 637
  | .vmem => 0
  | .smem => 0
  | _ => 0

abbrev hbmTy0_0 (i : Nat) : BufTy := match i % 128 with
  | 0 => ⟨S10000x128, .f32⟩
  | 1 => ⟨S2x320000, .i32⟩
  | 2 => ⟨S128x64, .f32⟩
  | 3 => ⟨S64, .f32⟩
  | 4 => ⟨S64x64, .f32⟩
  | 5 => ⟨S64, .f32⟩
  | 6 => ⟨S64x512, .f32⟩
  | 7 => ⟨S8x64, .f32⟩
  | 8 => ⟨S8x64, .f32⟩
  | 9 => ⟨S512, .f32⟩
  | 10 => ⟨S512x512, .f32⟩
  | 11 => ⟨S8x64, .f32⟩
  | 12 => ⟨S8x64, .f32⟩
  | 13 => ⟨S512, .f32⟩
  | 14 => ⟨S512x64, .f32⟩
  | 15 => ⟨S1x64, .f32⟩
  | 16 => ⟨S1x64, .f32⟩
  | 17 => ⟨S64, .f32⟩
  | 18 => ⟨S10000, .i32⟩
  | 19 => ⟨S1x320000, .i32⟩
  | 20 => ⟨S320000, .i32⟩
  | 21 => ⟨S330000, .i32⟩
  | 22 => ⟨S1x320000, .i32⟩
  | 23 => ⟨S320000, .i32⟩
  | 24 => ⟨S330000, .i32⟩
  | 25 => ⟨S_, .f32⟩
  | 26 => ⟨S330000, .f32⟩
  | 27 => ⟨S_, .f32⟩
  | 28 => ⟨S10000, .f32⟩
  | 29 => ⟨S330000x1, .i32⟩
  | 30 => ⟨S10000, .f32⟩
  | 31 => ⟨S_, .f32⟩
  | 32 => ⟨S10000, .f32⟩
  | 33 => ⟨S10000, .i1⟩
  | 34 => ⟨S_, .f32⟩
  | 35 => ⟨S10000, .f32⟩
  | 36 => ⟨S10000, .i1⟩
  | 37 => ⟨S_, .f32⟩
  | 38 => ⟨S_, .f32⟩
  | 39 => ⟨S10000, .f32⟩
  | 40 => ⟨S10000, .f32⟩
  | 41 => ⟨S10000, .f32⟩
  | 42 => ⟨S_, .f32⟩
  | 43 => ⟨S10000, .f32⟩
  | 44 => ⟨S10000, .f32⟩
  | 45 => ⟨S_, .f32⟩
  | 46 => ⟨S_, .f32⟩
  | 47 => ⟨S10000, .f32⟩
  | 48 => ⟨S10000, .f32⟩
  | 49 => ⟨S_, .i32⟩
  | 50 => ⟨S330000, .i32⟩
  | 51 => ⟨S330000, .i1⟩
  | 52 => ⟨S_, .i32⟩
  | 53 => ⟨S330000, .i32⟩
  | 54 => ⟨S330000, .i32⟩
  | 55 => ⟨S330000, .i32⟩
  | 56 => ⟨S330000x1, .i32⟩
  | 57 => ⟨S330000, .f32⟩
  | 58 => ⟨S_, .i32⟩
  | 59 => ⟨S330000, .i32⟩
  | 60 => ⟨S330000, .i1⟩
  | 61 => ⟨S_, .i32⟩
  | 62 => ⟨S330000, .i32⟩
  | 63 => ⟨S330000, .i32⟩
  | 64 => ⟨S330000, .i32⟩
  | 65 => ⟨S330000x1, .i32⟩
  | 66 => ⟨S330000, .f32⟩
  | 67 => ⟨S330000, .f32⟩
  | 68 => ⟨S10000x64, .f32⟩
  | 69 => ⟨S_, .i32⟩
  | 70 => ⟨S330000, .i32⟩
  | 71 => ⟨S330000, .i1⟩
  | 72 => ⟨S_, .i32⟩
  | 73 => ⟨S330000, .i32⟩
  | 74 => ⟨S330000, .i32⟩
  | 75 => ⟨S330000, .i32⟩
  | 76 => ⟨S330000x1, .i32⟩
  | 77 => ⟨S330000x64, .f32⟩
  | 78 => ⟨S330000x1, .f32⟩
  | 79 => ⟨S330000x64, .f32⟩
  | 80 => ⟨S330000x64, .f32⟩
  | 81 => ⟨S_, .f32⟩
  | 82 => ⟨S10000x64, .f32⟩
  | 83 => ⟨S330000x1, .i32⟩
  | 84 => ⟨S10000x64, .f32⟩
  | 85 => ⟨S1x64, .f32⟩
  | 86 => ⟨S10000x64, .f32⟩
  | 87 => ⟨S10000x64, .f32⟩
  | 88 => ⟨S_, .f32⟩
  | 89 => ⟨S10000x64, .f32⟩
  | 90 => ⟨S10000x64, .i1⟩
  | 91 => ⟨S_, .f32⟩
  | 92 => ⟨S10000x64, .f32⟩
  | 93 => ⟨S10000x64, .i1⟩
  | 94 => ⟨S_, .f32⟩
  | 95 => ⟨S_, .f32⟩
  | 96 => ⟨S10000x64, .f32⟩
  | 97 => ⟨S10000x64, .f32⟩
  | 98 => ⟨S10000x64, .f32⟩
  | 99 => ⟨S_, .f32⟩
  | 100 => ⟨S10000x64, .f32⟩
  | 101 => ⟨S10000x64, .f32⟩
  | 102 => ⟨S10000x64, .f32⟩
  | 103 => ⟨S_, .f32⟩
  | 104 => ⟨S330000, .f32⟩
  | 105 => ⟨S_, .f32⟩
  | 106 => ⟨S10000, .f32⟩
  | 107 => ⟨S330000x1, .i32⟩
  | 108 => ⟨S10000, .f32⟩
  | 109 => ⟨S_, .f32⟩
  | 110 => ⟨S10000, .f32⟩
  | 111 => ⟨S10000, .i1⟩
  | 112 => ⟨S_, .f32⟩
  | 113 => ⟨S10000, .f32⟩
  | 114 => ⟨S10000, .i1⟩
  | 115 => ⟨S_, .f32⟩
  | 116 => ⟨S_, .f32⟩
  | 117 => ⟨S10000, .f32⟩
  | 118 => ⟨S10000, .f32⟩
  | 119 => ⟨S10000, .f32⟩
  | 120 => ⟨S_, .f32⟩
  | 121 => ⟨S10000, .f32⟩
  | 122 => ⟨S10000, .f32⟩
  | 123 => ⟨S_, .f32⟩
  | 124 => ⟨S_, .f32⟩
  | 125 => ⟨S10000, .f32⟩
  | 126 => ⟨S10000, .f32⟩
  | 127 => ⟨S_, .i32⟩
  | _ => ⟨S10000x128, .f32⟩

abbrev hbmTy0_1 (i : Nat) : BufTy := match i % 128 with
  | 0 => ⟨S330000, .i32⟩
  | 1 => ⟨S330000, .i1⟩
  | 2 => ⟨S_, .i32⟩
  | 3 => ⟨S330000, .i32⟩
  | 4 => ⟨S330000, .i32⟩
  | 5 => ⟨S330000, .i32⟩
  | 6 => ⟨S330000x1, .i32⟩
  | 7 => ⟨S330000, .f32⟩
  | 8 => ⟨S_, .i32⟩
  | 9 => ⟨S330000, .i32⟩
  | 10 => ⟨S330000, .i1⟩
  | 11 => ⟨S_, .i32⟩
  | 12 => ⟨S330000, .i32⟩
  | 13 => ⟨S330000, .i32⟩
  | 14 => ⟨S330000, .i32⟩
  | 15 => ⟨S330000x1, .i32⟩
  | 16 => ⟨S330000, .f32⟩
  | 17 => ⟨S330000, .f32⟩
  | 18 => ⟨S10000x64, .f32⟩
  | 19 => ⟨S_, .i32⟩
  | 20 => ⟨S330000, .i32⟩
  | 21 => ⟨S330000, .i1⟩
  | 22 => ⟨S_, .i32⟩
  | 23 => ⟨S330000, .i32⟩
  | 24 => ⟨S330000, .i32⟩
  | 25 => ⟨S330000, .i32⟩
  | 26 => ⟨S330000x1, .i32⟩
  | 27 => ⟨S330000x64, .f32⟩
  | 28 => ⟨S330000x1, .f32⟩
  | 29 => ⟨S330000x64, .f32⟩
  | 30 => ⟨S330000x64, .f32⟩
  | 31 => ⟨S_, .f32⟩
  | 32 => ⟨S10000x64, .f32⟩
  | 33 => ⟨S330000x1, .i32⟩
  | 34 => ⟨S10000x64, .f32⟩
  | 35 => ⟨S1x64, .f32⟩
  | 36 => ⟨S10000x64, .f32⟩
  | 37 => ⟨S10000x64, .f32⟩
  | 38 => ⟨S_, .f32⟩
  | 39 => ⟨S10000x64, .f32⟩
  | 40 => ⟨S10000x64, .i1⟩
  | 41 => ⟨S_, .f32⟩
  | 42 => ⟨S10000x64, .f32⟩
  | 43 => ⟨S10000x64, .i1⟩
  | 44 => ⟨S_, .f32⟩
  | 45 => ⟨S_, .f32⟩
  | 46 => ⟨S10000x64, .f32⟩
  | 47 => ⟨S10000x64, .f32⟩
  | 48 => ⟨S10000x64, .f32⟩
  | 49 => ⟨S_, .f32⟩
  | 50 => ⟨S10000x64, .f32⟩
  | 51 => ⟨S10000x64, .f32⟩
  | 52 => ⟨S10000x64, .f32⟩
  | 53 => ⟨S10000x512, .f32⟩
  | 54 => ⟨S10000x8x64, .f32⟩
  | 55 => ⟨S1x8x64, .f32⟩
  | 56 => ⟨S10000x8x64, .f32⟩
  | 57 => ⟨S10000x8x64, .f32⟩
  | 58 => ⟨S_, .f32⟩
  | 59 => ⟨S10000x8, .f32⟩
  | 60 => ⟨S1x8x64, .f32⟩
  | 61 => ⟨S10000x8x64, .f32⟩
  | 62 => ⟨S10000x8x64, .f32⟩
  | 63 => ⟨S_, .f32⟩
  | 64 => ⟨S10000x8, .f32⟩
  | 65 => ⟨S_, .i32⟩
  | 66 => ⟨S330000, .i32⟩
  | 67 => ⟨S330000, .i1⟩
  | 68 => ⟨S_, .i32⟩
  | 69 => ⟨S330000, .i32⟩
  | 70 => ⟨S330000, .i32⟩
  | 71 => ⟨S330000, .i32⟩
  | 72 => ⟨S330000x1, .i32⟩
  | 73 => ⟨S330000x8, .f32⟩
  | 74 => ⟨S_, .i32⟩
  | 75 => ⟨S330000, .i32⟩
  | 76 => ⟨S330000, .i1⟩
  | 77 => ⟨S_, .i32⟩
  | 78 => ⟨S330000, .i32⟩
  | 79 => ⟨S330000, .i32⟩
  | 80 => ⟨S330000, .i32⟩
  | 81 => ⟨S330000x1, .i32⟩
  | 82 => ⟨S330000x8, .f32⟩
  | 83 => ⟨S330000x8, .f32⟩
  | 84 => ⟨S_, .f32⟩
  | 85 => ⟨S_, .f32⟩
  | 86 => ⟨S330000x8, .f32⟩
  | 87 => ⟨S330000x8, .i1⟩
  | 88 => ⟨S_, .f32⟩
  | 89 => ⟨S330000x8, .f32⟩
  | 90 => ⟨S330000x8, .f32⟩
  | 91 => ⟨S330000x8, .f32⟩
  | 92 => ⟨S1x330000, .i32⟩
  | 93 => ⟨S10000, .i32⟩
  | 94 => ⟨S10000x1, .i32⟩
  | 95 => ⟨S10000x330000, .i32⟩
  | 96 => ⟨S10000x330000, .i32⟩
  | 97 => ⟨S10000x330000, .i1⟩
  | 98 => ⟨S10000x330000x1, .i1⟩
  | 99 => ⟨S1x330000x8, .f32⟩
  | 100 => ⟨S_, .f32⟩
  | 101 => ⟨S_, .f32⟩
  | 102 => ⟨S10000x330000x8, .i1⟩
  | 103 => ⟨S10000x330000x8, .f32⟩
  | 104 => ⟨S10000x330000x8, .f32⟩
  | 105 => ⟨S10000x330000x8, .f32⟩
  | 106 => ⟨S_, .f32⟩
  | 107 => ⟨S10000x8, .f32⟩
  | 108 => ⟨S10000x8, .f32⟩
  | 109 => ⟨S_, .f32⟩
  | 110 => ⟨S10000x8, .f32⟩
  | 111 => ⟨S10000x8, .i1⟩
  | 112 => ⟨S_, .f32⟩
  | 113 => ⟨S_, .f32⟩
  | 114 => ⟨S10000x8, .f32⟩
  | 115 => ⟨S10000x8, .f32⟩
  | 116 => ⟨S_, .i32⟩
  | 117 => ⟨S330000, .i32⟩
  | 118 => ⟨S330000, .i1⟩
  | 119 => ⟨S_, .i32⟩
  | 120 => ⟨S330000, .i32⟩
  | 121 => ⟨S330000, .i32⟩
  | 122 => ⟨S330000, .i32⟩
  | 123 => ⟨S330000x1, .i32⟩
  | 124 => ⟨S330000x8, .f32⟩
  | 125 => ⟨S330000x8, .f32⟩
  | 126 => ⟨S330000x8, .f32⟩
  | 127 => ⟨S_, .f32⟩
  | _ => ⟨S10000x128, .f32⟩

abbrev hbmTy0_2 (i : Nat) : BufTy := match i % 128 with
  | 0 => ⟨S10000x8, .f32⟩
  | 1 => ⟨S330000x1, .i32⟩
  | 2 => ⟨S10000x8, .f32⟩
  | 3 => ⟨S_, .f32⟩
  | 4 => ⟨S8, .f32⟩
  | 5 => ⟨S1x8, .f32⟩
  | 6 => ⟨S10000x8, .f32⟩
  | 7 => ⟨S10000x8, .f32⟩
  | 8 => ⟨S_, .f32⟩
  | 9 => ⟨S_, .f32⟩
  | 10 => ⟨S10000x8, .f32⟩
  | 11 => ⟨S10000x8, .i1⟩
  | 12 => ⟨S_, .f32⟩
  | 13 => ⟨S10000x8, .f32⟩
  | 14 => ⟨S10000x8, .f32⟩
  | 15 => ⟨S10000x8, .f32⟩
  | 16 => ⟨S10000x8, .f32⟩
  | 17 => ⟨S10000x8, .f32⟩
  | 18 => ⟨S_, .f32⟩
  | 19 => ⟨S10000x8, .f32⟩
  | 20 => ⟨S10000x8, .f32⟩
  | 21 => ⟨S_, .i32⟩
  | 22 => ⟨S330000, .i32⟩
  | 23 => ⟨S330000, .i1⟩
  | 24 => ⟨S_, .i32⟩
  | 25 => ⟨S330000, .i32⟩
  | 26 => ⟨S330000, .i32⟩
  | 27 => ⟨S330000, .i32⟩
  | 28 => ⟨S330000x1, .i32⟩
  | 29 => ⟨S330000x8, .f32⟩
  | 30 => ⟨S_, .i32⟩
  | 31 => ⟨S330000, .i32⟩
  | 32 => ⟨S330000, .i1⟩
  | 33 => ⟨S_, .i32⟩
  | 34 => ⟨S330000, .i32⟩
  | 35 => ⟨S330000, .i32⟩
  | 36 => ⟨S330000, .i32⟩
  | 37 => ⟨S330000x1, .i32⟩
  | 38 => ⟨S330000x8, .f32⟩
  | 39 => ⟨S330000x8, .f32⟩
  | 40 => ⟨S330000x8, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000x8x64, .f32⟩
  | 50 => ⟨S330000x8x1, .f32⟩
  | 51 => ⟨S330000x8x64, .f32⟩
  | 52 => ⟨S330000x8x64, .f32⟩
  | 53 => ⟨S_, .f32⟩
  | 54 => ⟨S10000x8x64, .f32⟩
  | 55 => ⟨S330000x1, .i32⟩
  | 56 => ⟨S10000x8x64, .f32⟩
  | 57 => ⟨S10000x512, .f32⟩
  | 58 => ⟨S1x512, .f32⟩
  | 59 => ⟨S10000x512, .f32⟩
  | 60 => ⟨S10000x512, .f32⟩
  | 61 => ⟨S_, .f32⟩
  | 62 => ⟨S10000x512, .f32⟩
  | 63 => ⟨S10000x512, .i1⟩
  | 64 => ⟨S_, .f32⟩
  | 65 => ⟨S10000x512, .f32⟩
  | 66 => ⟨S10000x512, .i1⟩
  | 67 => ⟨S_, .f32⟩
  | 68 => ⟨S_, .f32⟩
  | 69 => ⟨S10000x512, .f32⟩
  | 70 => ⟨S10000x512, .f32⟩
  | 71 => ⟨S10000x512, .f32⟩
  | 72 => ⟨S_, .f32⟩
  | 73 => ⟨S10000x512, .f32⟩
  | 74 => ⟨S10000x512, .f32⟩
  | 75 => ⟨S10000x512, .f32⟩
  | 76 => ⟨S10000x512, .f32⟩
  | 77 => ⟨S10000x8x64, .f32⟩
  | 78 => ⟨S1x8x64, .f32⟩
  | 79 => ⟨S10000x8x64, .f32⟩
  | 80 => ⟨S10000x8x64, .f32⟩
  | 81 => ⟨S_, .f32⟩
  | 82 => ⟨S10000x8, .f32⟩
  | 83 => ⟨S1x8x64, .f32⟩
  | 84 => ⟨S10000x8x64, .f32⟩
  | 85 => ⟨S10000x8x64, .f32⟩
  | 86 => ⟨S_, .f32⟩
  | 87 => ⟨S10000x8, .f32⟩
  | 88 => ⟨S_, .i32⟩
  | 89 => ⟨S330000, .i32⟩
  | 90 => ⟨S330000, .i1⟩
  | 91 => ⟨S_, .i32⟩
  | 92 => ⟨S330000, .i32⟩
  | 93 => ⟨S330000, .i32⟩
  | 94 => ⟨S330000, .i32⟩
  | 95 => ⟨S330000x1, .i32⟩
  | 96 => ⟨S330000x8, .f32⟩
  | 97 => ⟨S_, .i32⟩
  | 98 => ⟨S330000, .i32⟩
  | 99 => ⟨S330000, .i1⟩
  | 100 => ⟨S_, .i32⟩
  | 101 => ⟨S330000, .i32⟩
  | 102 => ⟨S330000, .i32⟩
  | 103 => ⟨S330000, .i32⟩
  | 104 => ⟨S330000x1, .i32⟩
  | 105 => ⟨S330000x8, .f32⟩
  | 106 => ⟨S330000x8, .f32⟩
  | 107 => ⟨S_, .f32⟩
  | 108 => ⟨S_, .f32⟩
  | 109 => ⟨S330000x8, .f32⟩
  | 110 => ⟨S330000x8, .i1⟩
  | 111 => ⟨S_, .f32⟩
  | 112 => ⟨S330000x8, .f32⟩
  | 113 => ⟨S330000x8, .f32⟩
  | 114 => ⟨S330000x8, .f32⟩
  | 115 => ⟨S1x330000, .i32⟩
  | 116 => ⟨S10000, .i32⟩
  | 117 => ⟨S10000x1, .i32⟩
  | 118 => ⟨S10000x330000, .i32⟩
  | 119 => ⟨S10000x330000, .i32⟩
  | 120 => ⟨S10000x330000, .i1⟩
  | 121 => ⟨S10000x330000x1, .i1⟩
  | 122 => ⟨S1x330000x8, .f32⟩
  | 123 => ⟨S_, .f32⟩
  | 124 => ⟨S_, .f32⟩
  | 125 => ⟨S10000x330000x8, .i1⟩
  | 126 => ⟨S10000x330000x8, .f32⟩
  | 127 => ⟨S10000x330000x8, .f32⟩
  | _ => ⟨S10000x128, .f32⟩

abbrev hbmTy0_3 (i : Nat) : BufTy := match i % 128 with
  | 0 => ⟨S10000x330000x8, .f32⟩
  | 1 => ⟨S_, .f32⟩
  | 2 => ⟨S10000x8, .f32⟩
  | 3 => ⟨S10000x8, .f32⟩
  | 4 => ⟨S_, .f32⟩
  | 5 => ⟨S10000x8, .f32⟩
  | 6 => ⟨S10000x8, .i1⟩
  | 7 => ⟨S_, .f32⟩
  | 8 => ⟨S_, .f32⟩
  | 9 => ⟨S10000x8, .f32⟩
  | 10 => ⟨S10000x8, .f32⟩
  | 11 => ⟨S_, .i32⟩
  | 12 => ⟨S330000, .i32⟩
  | 13 => ⟨S330000, .i1⟩
  | 14 => ⟨S_, .i32⟩
  | 15 => ⟨S330000, .i32⟩
  | 16 => ⟨S330000, .i32⟩
  | 17 => ⟨S330000, .i32⟩
  | 18 => ⟨S330000x1, .i32⟩
  | 19 => ⟨S330000x8, .f32⟩
  | 20 => ⟨S330000x8, .f32⟩
  | 21 => ⟨S330000x8, .f32⟩
  | 22 => ⟨S_, .f32⟩
  | 23 => ⟨S10000x8, .f32⟩
  | 24 => ⟨S330000x1, .i32⟩
  | 25 => ⟨S10000x8, .f32⟩
  | 26 => ⟨S_, .f32⟩
  | 27 => ⟨S8, .f32⟩
  | 28 => ⟨S1x8, .f32⟩
  | 29 => ⟨S10000x8, .f32⟩
  | 30 => ⟨S10000x8, .f32⟩
  | 31 => ⟨S_, .f32⟩
  | 32 => ⟨S_, .f32⟩
  | 33 => ⟨S10000x8, .f32⟩
  | 34 => ⟨S10000x8, .i1⟩
  | 35 => ⟨S_, .f32⟩
  | 36 => ⟨S10000x8, .f32⟩
  | 37 => ⟨S10000x8, .f32⟩
  | 38 => ⟨S10000x8, .f32⟩
  | 39 => ⟨S10000x8, .f32⟩
  | 40 => ⟨S10000x8, .f32⟩
  | 41 => ⟨S_, .f32⟩
  | 42 => ⟨S10000x8, .f32⟩
  | 43 => ⟨S10000x8, .f32⟩
  | 44 => ⟨S_, .i32⟩
  | 45 => ⟨S330000, .i32⟩
  | 46 => ⟨S330000, .i1⟩
  | 47 => ⟨S_, .i32⟩
  | 48 => ⟨S330000, .i32⟩
  | 49 => ⟨S330000, .i32⟩
  | 50 => ⟨S330000, .i32⟩
  | 51 => ⟨S330000x1, .i32⟩
  | 52 => ⟨S330000x8, .f32⟩
  | 53 => ⟨S_, .i32⟩
  | 54 => ⟨S330000, .i32⟩
  | 55 => ⟨S330000, .i1⟩
  | 56 => ⟨S_, .i32⟩
  | 57 => ⟨S330000, .i32⟩
  | 58 => ⟨S330000, .i32⟩
  | 59 => ⟨S330000, .i32⟩
  | 60 => ⟨S330000x1, .i32⟩
  | 61 => ⟨S330000x8, .f32⟩
  | 62 => ⟨S330000x8, .f32⟩
  | 63 => ⟨S330000x8, .f32⟩
  | 64 => ⟨S_, .i32⟩
  | 65 => ⟨S330000, .i32⟩
  | 66 => ⟨S330000, .i1⟩
  | 67 => ⟨S_, .i32⟩
  | 68 => ⟨S330000, .i32⟩
  | 69 => ⟨S330000, .i32⟩
  | 70 => ⟨S330000, .i32⟩
  | 71 => ⟨S330000x1, .i32⟩
  | 72 => ⟨S330000x8x64, .f32⟩
  | 73 => ⟨S330000x8x1, .f32⟩
  | 74 => ⟨S330000x8x64, .f32⟩
  | 75 => ⟨S330000x8x64, .f32⟩
  | 76 => ⟨S_, .f32⟩
  | 77 => ⟨S10000x8x64, .f32⟩
  | 78 => ⟨S330000x1, .i32⟩
  | 79 => ⟨S10000x8x64, .f32⟩
  | 80 => ⟨S10000x512, .f32⟩
  | 81 => ⟨S1x512, .f32⟩
  | 82 => ⟨S10000x512, .f32⟩
  | 83 => ⟨S10000x512, .f32⟩
  | 84 => ⟨S_, .f32⟩
  | 85 => ⟨S10000x512, .f32⟩
  | 86 => ⟨S10000x512, .i1⟩
  | 87 => ⟨S_, .f32⟩
  | 88 => ⟨S10000x512, .f32⟩
  | 89 => ⟨S10000x512, .i1⟩
  | 90 => ⟨S_, .f32⟩
  | 91 => ⟨S_, .f32⟩
  | 92 => ⟨S10000x512, .f32⟩
  | 93 => ⟨S10000x512, .f32⟩
  | 94 => ⟨S10000x512, .f32⟩
  | 95 => ⟨S_, .f32⟩
  | 96 => ⟨S10000x512, .f32⟩
  | 97 => ⟨S10000x512, .f32⟩
  | 98 => ⟨S10000x512, .f32⟩
  | 99 => ⟨S10000x64, .f32⟩
  | 100 => ⟨S10000x1x64, .f32⟩
  | 101 => ⟨S1x1x64, .f32⟩
  | 102 => ⟨S10000x1x64, .f32⟩
  | 103 => ⟨S10000x1x64, .f32⟩
  | 104 => ⟨S_, .f32⟩
  | 105 => ⟨S10000x1, .f32⟩
  | 106 => ⟨S1x1x64, .f32⟩
  | 107 => ⟨S10000x1x64, .f32⟩
  | 108 => ⟨S10000x1x64, .f32⟩
  | 109 => ⟨S_, .f32⟩
  | 110 => ⟨S10000x1, .f32⟩
  | 111 => ⟨S_, .i32⟩
  | 112 => ⟨S330000, .i32⟩
  | 113 => ⟨S330000, .i1⟩
  | 114 => ⟨S_, .i32⟩
  | 115 => ⟨S330000, .i32⟩
  | 116 => ⟨S330000, .i32⟩
  | 117 => ⟨S330000, .i32⟩
  | 118 => ⟨S330000x1, .i32⟩
  | 119 => ⟨S330000x1, .f32⟩
  | 120 => ⟨S_, .i32⟩
  | 121 => ⟨S330000, .i32⟩
  | 122 => ⟨S330000, .i1⟩
  | 123 => ⟨S_, .i32⟩
  | 124 => ⟨S330000, .i32⟩
  | 125 => ⟨S330000, .i32⟩
  | 126 => ⟨S330000, .i32⟩
  | 127 => ⟨S330000x1, .i32⟩
  | _ => ⟨S10000x128, .f32⟩

abbrev hbmTy0_4 (i : Nat) : BufTy := match i % 128 with
  | 0 => ⟨S330000x1, .f32⟩
  | 1 => ⟨S330000x1, .f32⟩
  | 2 => ⟨S_, .f32⟩
  | 3 => ⟨S_, .f32⟩
  | 4 => ⟨S330000x1, .f32⟩
  | 5 => ⟨S330000x1, .i1⟩
  | 6 => ⟨S_, .f32⟩
  | 7 => ⟨S330000x1, .f32⟩
  | 8 => ⟨S330000x1, .f32⟩
  | 9 => ⟨S330000x1, .f32⟩
  | 10 => ⟨S1x330000, .i32⟩
  | 11 => ⟨S10000, .i32⟩
  | 12 => ⟨S10000x1, .i32⟩
  | 13 => ⟨S10000x330000, .i32⟩
  | 14 => ⟨S10000x330000, .i32⟩
  | 15 => ⟨S10000x330000, .i1⟩
  | 16 => ⟨S10000x330000x1, .i1⟩
  | 17 => ⟨S1x330000x1, .f32⟩
  | 18 => ⟨S_, .f32⟩
  | 19 => ⟨S_, .f32⟩
  | 20 => ⟨S10000x330000x1, .f32⟩
  | 21 => ⟨S10000x330000x1, .f32⟩
  | 22 => ⟨S10000x330000x1, .f32⟩
  | 23 => ⟨S_, .f32⟩
  | 24 => ⟨S10000x1, .f32⟩
  | 25 => ⟨S10000x1, .f32⟩
  | 26 => ⟨S_, .f32⟩
  | 27 => ⟨S10000x1, .f32⟩
  | 28 => ⟨S10000x1, .i1⟩
  | 29 => ⟨S_, .f32⟩
  | 30 => ⟨S_, .f32⟩
  | 31 => ⟨S10000x1, .f32⟩
  | 32 => ⟨S10000x1, .f32⟩
  | 33 => ⟨S_, .i32⟩
  | 34 => ⟨S330000, .i32⟩
  | 35 => ⟨S330000, .i1⟩
  | 36 => ⟨S_, .i32⟩
  | 37 => ⟨S330000, .i32⟩
  | 38 => ⟨S330000, .i32⟩
  | 39 => ⟨S330000, .i32⟩
  | 40 => ⟨S330000x1, .i32⟩
  | 41 => ⟨S330000x1, .f32⟩
  | 42 => ⟨S330000x1, .f32⟩
  | 43 => ⟨S330000x1, .f32⟩
  | 44 => ⟨S_, .f32⟩
  | 45 => ⟨S10000x1, .f32⟩
  | 46 => ⟨S330000x1, .i32⟩
  | 47 => ⟨S10000x1, .f32⟩
  | 48 => ⟨S_, .f32⟩
  | 49 => ⟨S1, .f32⟩
  | 50 => ⟨S1x1, .f32⟩
  | 51 => ⟨S10000x1, .f32⟩
  | 52 => ⟨S10000x1, .f32⟩
  | 53 => ⟨S_, .f32⟩
  | 54 => ⟨S_, .f32⟩
  | 55 => ⟨S10000x1, .f32⟩
  | 56 => ⟨S10000x1, .i1⟩
  | 57 => ⟨S_, .f32⟩
  | 58 => ⟨S10000x1, .f32⟩
  | 59 => ⟨S10000x1, .f32⟩
  | 60 => ⟨S10000x1, .f32⟩
  | 61 => ⟨S10000x1, .f32⟩
  | 62 => ⟨S10000x1, .f32⟩
  | 63 => ⟨S_, .f32⟩
  | 64 => ⟨S10000x1, .f32⟩
  | 65 => ⟨S10000x1, .f32⟩
  | 66 => ⟨S_, .i32⟩
  | 67 => ⟨S330000, .i32⟩
  | 68 => ⟨S330000, .i1⟩
  | 69 => ⟨S_, .i32⟩
  | 70 => ⟨S330000, .i32⟩
  | 71 => ⟨S330000, .i32⟩
  | 72 => ⟨S330000, .i32⟩
  | 73 => ⟨S330000x1, .i32⟩
  | 74 => ⟨S330000x1, .f32⟩
  | 75 => ⟨S_, .i32⟩
  | 76 => ⟨S330000, .i32⟩
  | 77 => ⟨S330000, .i1⟩
  | 78 => ⟨S_, .i32⟩
  | 79 => ⟨S330000, .i32⟩
  | 80 => ⟨S330000, .i32⟩
  | 81 => ⟨S330000, .i32⟩
  | 82 => ⟨S330000x1, .i32⟩
  | 83 => ⟨S330000x1, .f32⟩
  | 84 => ⟨S330000x1, .f32⟩
  | 85 => ⟨S330000x1, .f32⟩
  | 86 => ⟨S_, .i32⟩
  | 87 => ⟨S330000, .i32⟩
  | 88 => ⟨S330000, .i1⟩
  | 89 => ⟨S_, .i32⟩
  | 90 => ⟨S330000, .i32⟩
  | 91 => ⟨S330000, .i32⟩
  | 92 => ⟨S330000, .i32⟩
  | 93 => ⟨S330000x1, .i32⟩
  | 94 => ⟨S330000x1x64, .f32⟩
  | 95 => ⟨S330000x1x1, .f32⟩
  | 96 => ⟨S330000x1x64, .f32⟩
  | 97 => ⟨S330000x1x64, .f32⟩
  | 98 => ⟨S_, .f32⟩
  | 99 => ⟨S10000x1x64, .f32⟩
  | 100 => ⟨S330000x1, .i32⟩
  | 101 => ⟨S10000x1x64, .f32⟩
  | 102 => ⟨S_, .f32⟩
  | 103 => ⟨S10000x64, .f32⟩
  | 104 => ⟨S_, .f32⟩
  | 105 => ⟨S10000x64, .f32⟩
  | 106 => ⟨S10000x64, .f32⟩
  | 107 => ⟨S1x64, .f32⟩
  | 108 => ⟨S10000x64, .f32⟩
  | 109 => ⟨S10000x64, .f32⟩
  | 110 => ⟨S_, .f32⟩
  | 111 => ⟨S10000, .f32⟩
  | 112 => ⟨S_, .f32⟩
  | 113 => ⟨S10000, .f32⟩
  | 114 => ⟨S10000, .f32⟩
  | 115 => ⟨S10000x1, .f32⟩
  | 116 => ⟨S10000x64, .f32⟩
  | 117 => ⟨S10000x64, .f32⟩
  | 118 => ⟨S10000x64, .f32⟩
  | 119 => ⟨S_, .f32⟩
  | 120 => ⟨S10000, .f32⟩
  | 121 => ⟨S10000x1, .f32⟩
  | 122 => ⟨S10000x1, .f32⟩
  | 123 => ⟨S10000x64, .f32⟩
  | 124 => ⟨S10000x64, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_v16 : Ref sig .tc := ⟨.hbm, 41, rfl⟩
abbrev main_cst_4 : Ref sig .tc := ⟨.hbm, 42, rfl⟩
abbrev main_v17 : Ref sig .tc := ⟨.hbm, 43, rfl⟩
abbrev main_v18 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v19 : Ref sig .tc := ⟨.hbm, 48, rfl⟩
abbrev main_c : Ref sig .tc := ⟨.hbm, 49, rfl⟩
abbrev main_v20 : Ref sig .tc := ⟨.hbm, 50, rfl⟩
abbrev main_v21 : Ref sig .tc := ⟨.hbm, 51, rfl⟩
abbrev main_c_6 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_7 : Ref sig .tc := ⟨.hbm, 58, rfl⟩
abbrev main_v27 : Ref sig .tc := ⟨.hbm, 59, rfl⟩
abbrev main_v28 : Ref sig .tc := ⟨.hbm, 60, rfl⟩
abbrev main_c_8 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_9 : Ref sig .tc := ⟨.hbm, 69, rfl⟩
abbrev main_v36 : Ref sig .tc := ⟨.hbm, 70, rfl⟩
abbrev main_v37 : Ref sig .tc := ⟨.hbm, 71, rfl⟩
abbrev main_c_10 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_11 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_call2_cst_1 : Ref sig .tc := ⟨.hbm, 94, rfl⟩
abbrev main_call2_call0_v0 : Ref sig .tc := ⟨.hbm, 95, rfl⟩
abbrev main_call2_call0_v1 : Ref sig .tc := ⟨.hbm, 96, rfl⟩
abbrev main_call2_v4 : Ref sig .tc := ⟨.hbm, 97, rfl⟩
abbrev main_call2_v5 : Ref sig .tc := ⟨.hbm, 98, rfl⟩
abbrev main_call2_cst_2 : Ref sig .tc := ⟨.hbm, 99, rfl⟩
abbrev main_call2_v6 : Ref sig .tc := ⟨.hbm, 100, rfl⟩
abbrev main_call2_v7 : Ref sig .tc := ⟨.hbm, 101, rfl⟩
abbrev main_v52 : Ref sig .tc := ⟨.hbm, 102, rfl⟩
abbrev main_cst_12 : Ref sig .tc := ⟨.hbm, 103, rfl⟩
abbrev main_v53 : Ref sig .tc := ⟨.hbm, 104, rfl⟩
abbrev main_cst_13 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_14 : Ref sig .tc := ⟨.hbm, 109, rfl⟩
abbrev main_v57 : Ref sig .tc := ⟨.hbm, 110, rfl⟩
abbrev main_v58 : Ref sig .tc := ⟨.hbm, 111, rfl⟩
abbrev main_cst_15 : Ref sig .tc := ⟨.hbm, 112, rfl⟩
abbrev main_v59 : Ref sig .tc := ⟨.hbm, 113, rfl⟩
abbrev main_v60 : Ref sig .tc := ⟨.hbm, 114, rfl⟩
abbrev main_cst_16 : Ref sig .tc := ⟨.hbm, 115, rfl⟩
abbrev main_call3_v0 : Ref sig .tc := ⟨.hbm, 116, rfl⟩
abbrev main_call3_v1 : Ref sig .tc := ⟨.hbm, 117, rfl⟩
abbrev main_v61 : Ref sig .tc := ⟨.hbm, 118, rfl⟩
abbrev main_v62 : Ref sig .tc := ⟨.hbm, 119, rfl⟩
abbrev main_cst_17 : Ref sig .tc := ⟨.hbm, 120, rfl⟩
abbrev main_v63 : Ref sig .tc := ⟨.hbm, 121, rfl⟩
abbrev main_v64 : Ref sig .tc := ⟨.hbm, 122, rfl⟩
abbrev main_cst_18 : Ref sig .tc := ⟨.hbm, 123, rfl⟩
abbrev main_call4_v0 : Ref sig .tc := ⟨.hbm, 124, rfl⟩
abbrev main_call4_v1 : Ref sig .tc := ⟨.hbm, 125, rfl⟩
abbrev main_v65 : Ref sig .tc := ⟨.hbm, 126, rfl⟩
abbrev main_c_19 : Ref sig .tc := ⟨.hbm, 127, rfl⟩
abbrev main_v66 : Ref sig .tc := ⟨.hbm, 128, rfl⟩
abbrev main_v67 : Ref sig .tc := ⟨.hbm, 129, rfl⟩
abbrev main_c_20 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_c_21 : Ref sig .tc := ⟨.hbm, 136, rfl⟩
abbrev main_v73 : Ref sig .tc := ⟨.hbm, 137, rfl⟩
abbrev main_v74 : Ref sig .tc := ⟨.hbm, 138, rfl⟩
abbrev main_c_22 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_c_23 : Ref sig .tc := ⟨.hbm, 147, rfl⟩
abbrev main_v82 : Ref sig .tc := ⟨.hbm, 148, rfl⟩
abbrev main_v83 : Ref sig .tc := ⟨.hbm, 149, rfl⟩
abbrev main_c_24 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_cst_25 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_call5_cst : Ref sig .tc := ⟨.hbm, 166, rfl⟩
abbrev main_call5_v0 : Ref sig .tc := ⟨.hbm, 167, rfl⟩
abbrev main_call5_v1 : Ref sig .tc := ⟨.hbm, 168, rfl⟩
abbrev main_call5_cst_0 : Ref sig .tc := ⟨.hbm, 169, rfl⟩
abbrev main_call5_v2 : Ref sig .tc := ⟨.hbm, 170, rfl⟩
abbrev main_call5_v3 : Ref sig .tc := ⟨.hbm, 171, rfl⟩
abbrev main_call5_cst_1 : Ref sig .tc := ⟨.hbm, 172, rfl⟩
abbrev main_call5_call0_v0 : Ref sig .tc := ⟨.hbm, 173, rfl⟩
abbrev main_call5_call0_v1 : Ref sig .tc := ⟨.hbm, 174, rfl⟩
abbrev main_call5_v4 : Ref sig .tc := ⟨.hbm, 175, rfl⟩
abbrev main_call5_v5 : Ref sig .tc := ⟨.hbm, 176, rfl⟩
abbrev main_call5_cst_2 : Ref sig .tc := ⟨.hbm, 177, rfl⟩
abbrev main_call5_v6 : Ref sig .tc := ⟨.hbm, 178, rfl⟩
abbrev main_call5_v7 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_cst_26 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_cst_27 : Ref sig .tc := ⟨.hbm, 191, rfl⟩
abbrev main_v108 : Ref sig .tc := ⟨.hbm, 192, rfl⟩
abbrev main_c_28 : Ref sig .tc := ⟨.hbm, 193, rfl⟩
abbrev main_v109 : Ref sig .tc := ⟨.hbm, 194, rfl⟩
abbrev main_v110 : Ref sig .tc := ⟨.hbm, 195, rfl⟩
abbrev main_c_29 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_c_30 : Ref sig .tc := ⟨.hbm, 202, rfl⟩
abbrev main_v116 : Ref sig .tc := ⟨.hbm, 203, rfl⟩
abbrev main_v117 : Ref sig .tc := ⟨.hbm, 204, rfl⟩
abbrev main_c_31 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_cst_32 : Ref sig .tc := ⟨.hbm, 212, rfl⟩
abbrev main_call6_cst : Ref sig .tc := ⟨.hbm, 213, rfl⟩
abbrev main_call6_v0 : Ref sig .tc := ⟨.hbm, 214, rfl⟩
abbrev main_call6_v1 : Ref sig .tc := ⟨.hbm, 215, rfl⟩
abbrev main_call6_v2 : Ref sig .tc := ⟨.hbm, 216, rfl⟩
abbrev main_call6_v3 : Ref sig .tc := ⟨.hbm, 217, rfl⟩
abbrev main_call6_v4 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_cst_33 : Ref sig .tc := ⟨.hbm, 228, rfl⟩
abbrev main_call7_v0 : Ref sig .tc := ⟨.hbm, 229, rfl⟩
abbrev main_call7_v1 : Ref sig .tc := ⟨.hbm, 230, rfl⟩
abbrev main_call7_v2 : Ref sig .tc := ⟨.hbm, 231, rfl⟩
abbrev main_call7_v3 : Ref sig .tc := ⟨.hbm, 232, rfl⟩
abbrev main_v133 : Ref sig .tc := ⟨.hbm, 233, rfl⟩
abbrev main_cst_34 : Ref sig .tc := ⟨.hbm, 234, rfl⟩
abbrev main_v134 : Ref sig .tc := ⟨.hbm, 235, rfl⟩
abbrev main_v135 : Ref sig .tc := ⟨.hbm, 236, rfl⟩
abbrev main_cst_35 : Ref sig .tc := ⟨.hbm, 237, rfl⟩
abbrev main_v136 : Ref sig .tc := ⟨.hbm, 238, rfl⟩
abbrev main_v137 : Ref sig .tc := ⟨.hbm, 239, rfl⟩
abbrev main_cst_36 : Ref sig .tc := ⟨.hbm, 240, rfl⟩
abbrev main_call8_v0 : Ref sig .tc := ⟨.hbm, 241, rfl⟩
abbrev main_call8_v1 : Ref sig .tc := ⟨.hbm, 242, rfl⟩
abbrev main_v138 : Ref sig .tc := ⟨.hbm, 243, rfl⟩
abbrev main_c_37 : Ref sig .tc := ⟨.hbm, 244, rfl⟩
abbrev main_v139 : Ref sig .tc := ⟨.hbm, 245, rfl⟩
abbrev main_v140 : Ref sig .tc := ⟨.hbm, 246, rfl⟩
abbrev main_c_38 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_cst_39 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_cst_40 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_cst_41 : Ref sig .tc := ⟨.hbm, 264, rfl⟩
abbrev main_call9_cst : Ref sig .tc := ⟨.hbm, 265, rfl⟩
abbrev main_call9_v0 : Ref sig .tc := ⟨.hbm, 266, rfl⟩
abbrev main_call9_v1 : Ref sig .tc := ⟨.hbm, 267, rfl⟩
abbrev main_call9_v2 : Ref sig .tc := ⟨.hbm, 268, rfl⟩
abbrev main_call9_v3 : Ref sig .tc := ⟨.hbm, 269, rfl⟩
abbrev main_call9_v4 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_cst_42 : Ref sig .tc := ⟨.hbm, 274, rfl⟩
abbrev main_v158 : Ref sig .tc := ⟨.hbm, 275, rfl⟩
abbrev main_v159 : Ref sig .tc := ⟨.hbm, 276, rfl⟩
abbrev main_c_43 : Ref sig .tc := ⟨.hbm, 277, rfl⟩
abbrev main_v160 : Ref sig .tc := ⟨.hbm, 278, rfl⟩
abbrev main_v161 : Ref sig .tc := ⟨.hbm, 279, rfl⟩
abbrev main_c_44 : Ref sig .tc := ⟨.hbm, 280, rfl⟩
abbrev main_v162 : Ref sig .tc := ⟨.hbm, 281, rfl⟩
abbrev main_v163 : Ref sig .tc := ⟨.hbm, 282, rfl⟩
abbrev main_v164 : Ref sig .tc := ⟨.hbm, 283, rfl⟩
abbrev main_v165 : Ref sig .tc := ⟨.hbm, 284, rfl⟩
abbrev main_v166 : Ref sig .tc := ⟨.hbm, 285, rfl⟩
abbrev main_c_45 : Ref sig .tc := ⟨.hbm, 286, rfl⟩
abbrev main_v167 : Ref sig .tc := ⟨.hbm, 287, rfl⟩
abbrev main_v168 : Ref sig .tc := ⟨.hbm, 288, rfl⟩
abbrev main_c_46 : Ref sig .tc := ⟨.hbm, 289, rfl⟩
abbrev main_v169 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_c_47 : Ref sig .tc := ⟨.hbm, 297, rfl⟩
abbrev main_v176 : Ref sig .tc := ⟨.hbm, 298, rfl⟩
abbrev main_v177 : Ref sig .tc := ⟨.hbm, 299, rfl⟩
abbrev main_c_48 : Ref sig .tc := ⟨.hbm, 300, rfl⟩
abbrev main_v178 : Ref sig .tc := ⟨.hbm, 301, rfl⟩
abbrev main_v179 : Ref sig .tc := ⟨.hbm, 302, rfl⟩
abbrev main_v180 : Ref sig .tc := ⟨.hbm, 303, rfl⟩
abbrev main_v181 : Ref sig .tc := ⟨.hbm, 304, rfl⟩
abbrev main_v182 : Ref sig .tc := ⟨.hbm, 305, rfl⟩
abbrev main_v183 : Ref sig .tc := ⟨.hbm, 306, rfl⟩
abbrev main_v184 : Ref sig .tc := ⟨.hbm, 307, rfl⟩
abbrev main_v185 : Ref sig .tc := ⟨.hbm, 308, rfl⟩
abbrev main_cst_49 : Ref sig .tc := ⟨.hbm, 309, rfl⟩
abbrev main_v186 : Ref sig .tc := ⟨.hbm, 310, rfl⟩
abbrev main_v187 : Ref sig .tc := ⟨.hbm, 311, rfl⟩
abbrev main_v188 : Ref sig .tc := ⟨.hbm, 312, rfl⟩
abbrev main_v189 : Ref sig .tc := ⟨.hbm, 313, rfl⟩
abbrev main_v190 : Ref sig .tc := ⟨.hbm, 314, rfl⟩
abbrev main_v191 : Ref sig .tc := ⟨.hbm, 315, rfl⟩
abbrev main_v192 : Ref sig .tc := ⟨.hbm, 316, rfl⟩
abbrev main_call10_cst : Ref sig .tc := ⟨.hbm, 317, rfl⟩
abbrev main_call10_v0 : Ref sig .tc := ⟨.hbm, 318, rfl⟩
abbrev main_call10_v1 : Ref sig .tc := ⟨.hbm, 319, rfl⟩
abbrev main_call10_cst_0 : Ref sig .tc := ⟨.hbm, 320, rfl⟩
abbrev main_call10_v2 : Ref sig .tc := ⟨.hbm, 321, rfl⟩
abbrev main_call10_v3 : Ref sig .tc := ⟨.hbm, 322, rfl⟩
abbrev main_call10_cst_1 : Ref sig .tc := ⟨.hbm, 323, rfl⟩
abbrev main_call10_call0_v0 : Ref sig .tc := ⟨.hbm, 324, rfl⟩
abbrev main_call10_call0_v1 : Ref sig .tc := ⟨.hbm, 325, rfl⟩
abbrev main_call10_v4 : Ref sig .tc := ⟨.hbm, 326, rfl⟩
abbrev main_call10_v5 : Ref sig .tc := ⟨.hbm, 327, rfl⟩
abbrev main_call10_cst_2 : Ref sig .tc := ⟨.hbm, 328, rfl⟩
abbrev main_call10_v6 : Ref sig .tc := ⟨.hbm, 329, rfl⟩
abbrev main_call10_v7 : Ref sig .tc := ⟨.hbm, 330, rfl⟩
abbrev main_v193 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_v197 : Ref sig .tc := ⟨.hbm, 335, rfl⟩
abbrev main_v198 : Ref sig .tc := ⟨.hbm, 336, rfl⟩
abbrev main_cst_50 : Ref sig .tc := ⟨.hbm, 337, rfl⟩
abbrev main_v199 : Ref sig .tc := ⟨.hbm, 338, rfl⟩
abbrev main_v200 : Ref sig .tc := ⟨.hbm, 339, rfl⟩
abbrev main_v201 : Ref sig .tc := ⟨.hbm, 340, rfl⟩
abbrev main_v202 : Ref sig .tc := ⟨.hbm, 341, rfl⟩
abbrev main_cst_51 : Ref sig .tc := ⟨.hbm, 342, rfl⟩
abbrev main_v203 : Ref sig .tc := ⟨.hbm, 343, rfl⟩
abbrev main_c_52 : Ref sig .tc := ⟨.hbm, 344, rfl⟩
abbrev main_v204 : Ref sig .tc := ⟨.hbm, 345, rfl⟩
abbrev main_v205 : Ref sig .tc := ⟨.hbm, 346, rfl⟩
abbrev main_c_53 : Ref sig .tc := ⟨.hbm, 347, rfl⟩
abbrev main_v206 : Ref sig .tc := ⟨.hbm, 348, rfl⟩
abbrev main_v207 : Ref sig .tc := ⟨.hbm, 349, rfl⟩
abbrev main_v208 : Ref sig .tc := ⟨.hbm, 350, rfl⟩
abbrev main_v209 : Ref sig .tc := ⟨.hbm, 351, rfl⟩
abbrev main_v210 : Ref sig .tc := ⟨.hbm, 352, rfl⟩
abbrev main_c_54 : Ref sig .tc := ⟨.hbm, 353, rfl⟩
abbrev main_v211 : Ref sig .tc := ⟨.hbm, 354, rfl⟩
abbrev main_v212 : Ref sig .tc := ⟨.hbm, 355, rfl⟩
abbrev main_c_55 : Ref sig .tc := ⟨.hbm, 356, rfl⟩
abbrev main_v213 : Ref sig .tc := ⟨.hbm, 357, rfl⟩
abbrev main_v214 : Ref sig .tc := ⟨.hbm, 358, rfl⟩
abbrev main_v215 : Ref sig .tc := ⟨.hbm, 359, rfl⟩
abbrev main_v216 : Ref sig .tc := ⟨.hbm, 360, rfl⟩
abbrev main_v217 : Ref sig .tc := ⟨.hbm, 361, rfl⟩
abbrev main_v218 : Ref sig .tc := ⟨.hbm, 362, rfl⟩
abbrev main_cst_56 : Ref sig .tc := ⟨.hbm, 363, rfl⟩
abbrev main_call11_cst : Ref sig .tc := ⟨.hbm, 364, rfl⟩
abbrev main_call11_v0 : Ref sig .tc := ⟨.hbm, 365, rfl⟩
abbrev main_call11_v1 : Ref sig .tc := ⟨.hbm, 366, rfl⟩
abbrev main_call11_v2 : Ref sig .tc := ⟨.hbm, 367, rfl⟩
abbrev main_call11_v3 : Ref sig .tc := ⟨.hbm, 368, rfl⟩
abbrev main_call11_v4 : Ref sig .tc := ⟨.hbm, 369, rfl⟩
abbrev main_v219 : Ref sig .tc := ⟨.hbm, 370, rfl⟩
abbrev main_v220 : Ref sig .tc := ⟨.hbm, 371, rfl⟩
abbrev main_v221 : Ref sig .tc := ⟨.hbm, 372, rfl⟩
abbrev main_v222 : Ref sig .tc := ⟨.hbm, 373, rfl⟩
abbrev main_v223 : Ref sig .tc := ⟨.hbm, 374, rfl⟩
abbrev main_v224 : Ref sig .tc := ⟨.hbm, 375, rfl⟩
abbrev main_v225 : Ref sig .tc := ⟨.hbm, 376, rfl⟩
abbrev main_v226 : Ref sig .tc := ⟨.hbm, 377, rfl⟩
abbrev main_v227 : Ref sig .tc := ⟨.hbm, 378, rfl⟩
abbrev main_cst_57 : Ref sig .tc := ⟨.hbm, 379, rfl⟩
abbrev main_call12_v0 : Ref sig .tc := ⟨.hbm, 380, rfl⟩
abbrev main_call12_v1 : Ref sig .tc := ⟨.hbm, 381, rfl⟩
abbrev main_call12_v2 : Ref sig .tc := ⟨.hbm, 382, rfl⟩
abbrev main_call12_v3 : Ref sig .tc := ⟨.hbm, 383, rfl⟩
abbrev main_v228 : Ref sig .tc := ⟨.hbm, 384, rfl⟩
abbrev main_cst_58 : Ref sig .tc := ⟨.hbm, 385, rfl⟩
abbrev main_v229 : Ref sig .tc := ⟨.hbm, 386, rfl⟩
abbrev main_v230 : Ref sig .tc := ⟨.hbm, 387, rfl⟩
abbrev main_cst_59 : Ref sig .tc := ⟨.hbm, 388, rfl⟩
abbrev main_v231 : Ref sig .tc := ⟨.hbm, 389, rfl⟩
abbrev main_v232 : Ref sig .tc := ⟨.hbm, 390, rfl⟩
abbrev main_cst_60 : Ref sig .tc := ⟨.hbm, 391, rfl⟩
abbrev main_call13_v0 : Ref sig .tc := ⟨.hbm, 392, rfl⟩
abbrev main_call13_v1 : Ref sig .tc := ⟨.hbm, 393, rfl⟩
abbrev main_v233 : Ref sig .tc := ⟨.hbm, 394, rfl⟩
abbrev main_c_61 : Ref sig .tc := ⟨.hbm, 395, rfl⟩
abbrev main_v234 : Ref sig .tc := ⟨.hbm, 396, rfl⟩
abbrev main_v235 : Ref sig .tc := ⟨.hbm, 397, rfl⟩
abbrev main_c_62 : Ref sig .tc := ⟨.hbm, 398, rfl⟩
abbrev main_v236 : Ref sig .tc := ⟨.hbm, 399, rfl⟩
abbrev main_v237 : Ref sig .tc := ⟨.hbm, 400, rfl⟩
abbrev main_v238 : Ref sig .tc := ⟨.hbm, 401, rfl⟩
abbrev main_v239 : Ref sig .tc := ⟨.hbm, 402, rfl⟩
abbrev main_v240 : Ref sig .tc := ⟨.hbm, 403, rfl⟩
abbrev main_v241 : Ref sig .tc := ⟨.hbm, 404, rfl⟩
abbrev main_v242 : Ref sig .tc := ⟨.hbm, 405, rfl⟩
abbrev main_cst_63 : Ref sig .tc := ⟨.hbm, 406, rfl⟩
abbrev main_v243 : Ref sig .tc := ⟨.hbm, 407, rfl⟩
abbrev main_v244 : Ref sig .tc := ⟨.hbm, 408, rfl⟩
abbrev main_v245 : Ref sig .tc := ⟨.hbm, 409, rfl⟩
abbrev main_cst_64 : Ref sig .tc := ⟨.hbm, 410, rfl⟩
abbrev main_v246 : Ref sig .tc := ⟨.hbm, 411, rfl⟩
abbrev main_v247 : Ref sig .tc := ⟨.hbm, 412, rfl⟩
abbrev main_v248 : Ref sig .tc := ⟨.hbm, 413, rfl⟩
abbrev main_v249 : Ref sig .tc := ⟨.hbm, 414, rfl⟩
abbrev main_cst_65 : Ref sig .tc := ⟨.hbm, 415, rfl⟩
abbrev main_call14_cst : Ref sig .tc := ⟨.hbm, 416, rfl⟩
abbrev main_call14_v0 : Ref sig .tc := ⟨.hbm, 417, rfl⟩
abbrev main_call14_v1 : Ref sig .tc := ⟨.hbm, 418, rfl⟩
abbrev main_call14_v2 : Ref sig .tc := ⟨.hbm, 419, rfl⟩
abbrev main_call14_v3 : Ref sig .tc := ⟨.hbm, 420, rfl⟩
abbrev main_call14_v4 : Ref sig .tc := ⟨.hbm, 421, rfl⟩
abbrev main_v250 : Ref sig .tc := ⟨.hbm, 422, rfl⟩
abbrev main_v251 : Ref sig .tc := ⟨.hbm, 423, rfl⟩
abbrev main_v252 : Ref sig .tc := ⟨.hbm, 424, rfl⟩
abbrev main_cst_66 : Ref sig .tc := ⟨.hbm, 425, rfl⟩
abbrev main_v253 : Ref sig .tc := ⟨.hbm, 426, rfl⟩
abbrev main_v254 : Ref sig .tc := ⟨.hbm, 427, rfl⟩
abbrev main_c_67 : Ref sig .tc := ⟨.hbm, 428, rfl⟩
abbrev main_v255 : Ref sig .tc := ⟨.hbm, 429, rfl⟩
abbrev main_v256 : Ref sig .tc := ⟨.hbm, 430, rfl⟩
abbrev main_c_68 : Ref sig .tc := ⟨.hbm, 431, rfl⟩
abbrev main_v257 : Ref sig .tc := ⟨.hbm, 432, rfl⟩
abbrev main_v258 : Ref sig .tc := ⟨.hbm, 433, rfl⟩
abbrev main_v259 : Ref sig .tc := ⟨.hbm, 434, rfl⟩
abbrev main_v260 : Ref sig .tc := ⟨.hbm, 435, rfl⟩
abbrev main_v261 : Ref sig .tc := ⟨.hbm, 436, rfl⟩
abbrev main_c_69 : Ref sig .tc := ⟨.hbm, 437, rfl⟩
abbrev main_v262 : Ref sig .tc := ⟨.hbm, 438, rfl⟩
abbrev main_v263 : Ref sig .tc := ⟨.hbm, 439, rfl⟩
abbrev main_c_70 : Ref sig .tc := ⟨.hbm, 440, rfl⟩
abbrev main_v264 : Ref sig .tc := ⟨.hbm, 441, rfl⟩
abbrev main_v265 : Ref sig .tc := ⟨.hbm, 442, rfl⟩
abbrev main_v266 : Ref sig .tc := ⟨.hbm, 443, rfl⟩
abbrev main_v267 : Ref sig .tc := ⟨.hbm, 444, rfl⟩
abbrev main_v268 : Ref sig .tc := ⟨.hbm, 445, rfl⟩
abbrev main_v269 : Ref sig .tc := ⟨.hbm, 446, rfl⟩
abbrev main_v270 : Ref sig .tc := ⟨.hbm, 447, rfl⟩
abbrev main_c_71 : Ref sig .tc := ⟨.hbm, 448, rfl⟩
abbrev main_v271 : Ref sig .tc := ⟨.hbm, 449, rfl⟩
abbrev main_v272 : Ref sig .tc := ⟨.hbm, 450, rfl⟩
abbrev main_c_72 : Ref sig .tc := ⟨.hbm, 451, rfl⟩
abbrev main_v273 : Ref sig .tc := ⟨.hbm, 452, rfl⟩
abbrev main_v274 : Ref sig .tc := ⟨.hbm, 453, rfl⟩
abbrev main_v275 : Ref sig .tc := ⟨.hbm, 454, rfl⟩
abbrev main_v276 : Ref sig .tc := ⟨.hbm, 455, rfl⟩
abbrev main_v277 : Ref sig .tc := ⟨.hbm, 456, rfl⟩
abbrev main_v278 : Ref sig .tc := ⟨.hbm, 457, rfl⟩
abbrev main_v279 : Ref sig .tc := ⟨.hbm, 458, rfl⟩
abbrev main_v280 : Ref sig .tc := ⟨.hbm, 459, rfl⟩
abbrev main_cst_73 : Ref sig .tc := ⟨.hbm, 460, rfl⟩
abbrev main_v281 : Ref sig .tc := ⟨.hbm, 461, rfl⟩
abbrev main_v282 : Ref sig .tc := ⟨.hbm, 462, rfl⟩
abbrev main_v283 : Ref sig .tc := ⟨.hbm, 463, rfl⟩
abbrev main_v284 : Ref sig .tc := ⟨.hbm, 464, rfl⟩
abbrev main_v285 : Ref sig .tc := ⟨.hbm, 465, rfl⟩
abbrev main_v286 : Ref sig .tc := ⟨.hbm, 466, rfl⟩
abbrev main_v287 : Ref sig .tc := ⟨.hbm, 467, rfl⟩
abbrev main_call15_cst : Ref sig .tc := ⟨.hbm, 468, rfl⟩
abbrev main_call15_v0 : Ref sig .tc := ⟨.hbm, 469, rfl⟩
abbrev main_call15_v1 : Ref sig .tc := ⟨.hbm, 470, rfl⟩
abbrev main_call15_cst_0 : Ref sig .tc := ⟨.hbm, 471, rfl⟩
abbrev main_call15_v2 : Ref sig .tc := ⟨.hbm, 472, rfl⟩
abbrev main_call15_v3 : Ref sig .tc := ⟨.hbm, 473, rfl⟩
abbrev main_call15_cst_1 : Ref sig .tc := ⟨.hbm, 474, rfl⟩
abbrev main_call15_call0_v0 : Ref sig .tc := ⟨.hbm, 475, rfl⟩
abbrev main_call15_call0_v1 : Ref sig .tc := ⟨.hbm, 476, rfl⟩
abbrev main_call15_v4 : Ref sig .tc := ⟨.hbm, 477, rfl⟩
abbrev main_call15_v5 : Ref sig .tc := ⟨.hbm, 478, rfl⟩
abbrev main_call15_cst_2 : Ref sig .tc := ⟨.hbm, 479, rfl⟩
abbrev main_call15_v6 : Ref sig .tc := ⟨.hbm, 480, rfl⟩
abbrev main_call15_v7 : Ref sig .tc := ⟨.hbm, 481, rfl⟩
abbrev main_v288 : Ref sig .tc := ⟨.hbm, 482, rfl⟩
abbrev main_v289 : Ref sig .tc := ⟨.hbm, 483, rfl⟩
abbrev main_v290 : Ref sig .tc := ⟨.hbm, 484, rfl⟩
abbrev main_v291 : Ref sig .tc := ⟨.hbm, 485, rfl⟩
abbrev main_v292 : Ref sig .tc := ⟨.hbm, 486, rfl⟩
abbrev main_v293 : Ref sig .tc := ⟨.hbm, 487, rfl⟩
abbrev main_cst_74 : Ref sig .tc := ⟨.hbm, 488, rfl⟩
abbrev main_v294 : Ref sig .tc := ⟨.hbm, 489, rfl⟩
abbrev main_v295 : Ref sig .tc := ⟨.hbm, 490, rfl⟩
abbrev main_v296 : Ref sig .tc := ⟨.hbm, 491, rfl⟩
abbrev main_v297 : Ref sig .tc := ⟨.hbm, 492, rfl⟩
abbrev main_cst_75 : Ref sig .tc := ⟨.hbm, 493, rfl⟩
abbrev main_v298 : Ref sig .tc := ⟨.hbm, 494, rfl⟩
abbrev main_c_76 : Ref sig .tc := ⟨.hbm, 495, rfl⟩
abbrev main_v299 : Ref sig .tc := ⟨.hbm, 496, rfl⟩
abbrev main_v300 : Ref sig .tc := ⟨.hbm, 497, rfl⟩
abbrev main_c_77 : Ref sig .tc := ⟨.hbm, 498, rfl⟩
abbrev main_v301 : Ref sig .tc := ⟨.hbm, 499, rfl⟩
abbrev main_v302 : Ref sig .tc := ⟨.hbm, 500, rfl⟩
abbrev main_v303 : Ref sig .tc := ⟨.hbm, 501, rfl⟩
abbrev main_v304 : Ref sig .tc := ⟨.hbm, 502, rfl⟩
abbrev main_v305 : Ref sig .tc := ⟨.hbm, 503, rfl⟩
abbrev main_c_78 : Ref sig .tc := ⟨.hbm, 504, rfl⟩
abbrev main_v306 : Ref sig .tc := ⟨.hbm, 505, rfl⟩
abbrev main_v307 : Ref sig .tc := ⟨.hbm, 506, rfl⟩
abbrev main_c_79 : Ref sig .tc := ⟨.hbm, 507, rfl⟩
abbrev main_v308 : Ref sig .tc := ⟨.hbm, 508, rfl⟩
abbrev main_v309 : Ref sig .tc := ⟨.hbm, 509, rfl⟩
abbrev main_v310 : Ref sig .tc := ⟨.hbm, 510, rfl⟩
abbrev main_v311 : Ref sig .tc := ⟨.hbm, 511, rfl⟩
abbrev main_v312 : Ref sig .tc := ⟨.hbm, 512, rfl⟩
abbrev main_v313 : Ref sig .tc := ⟨.hbm, 513, rfl⟩
abbrev main_cst_80 : Ref sig .tc := ⟨.hbm, 514, rfl⟩
abbrev main_call16_cst : Ref sig .tc := ⟨.hbm, 515, rfl⟩
abbrev main_call16_v0 : Ref sig .tc := ⟨.hbm, 516, rfl⟩
abbrev main_call16_v1 : Ref sig .tc := ⟨.hbm, 517, rfl⟩
abbrev main_call16_v2 : Ref sig .tc := ⟨.hbm, 518, rfl⟩
abbrev main_call16_v3 : Ref sig .tc := ⟨.hbm, 519, rfl⟩
abbrev main_call16_v4 : Ref sig .tc := ⟨.hbm, 520, rfl⟩
abbrev main_v314 : Ref sig .tc := ⟨.hbm, 521, rfl⟩
abbrev main_v315 : Ref sig .tc := ⟨.hbm, 522, rfl⟩
abbrev main_v316 : Ref sig .tc := ⟨.hbm, 523, rfl⟩
abbrev main_v317 : Ref sig .tc := ⟨.hbm, 524, rfl⟩
abbrev main_v318 : Ref sig .tc := ⟨.hbm, 525, rfl⟩
abbrev main_v319 : Ref sig .tc := ⟨.hbm, 526, rfl⟩
abbrev main_v320 : Ref sig .tc := ⟨.hbm, 527, rfl⟩
abbrev main_v321 : Ref sig .tc := ⟨.hbm, 528, rfl⟩
abbrev main_v322 : Ref sig .tc := ⟨.hbm, 529, rfl⟩
abbrev main_cst_81 : Ref sig .tc := ⟨.hbm, 530, rfl⟩
abbrev main_call17_v0 : Ref sig .tc := ⟨.hbm, 531, rfl⟩
abbrev main_call17_v1 : Ref sig .tc := ⟨.hbm, 532, rfl⟩
abbrev main_call17_v2 : Ref sig .tc := ⟨.hbm, 533, rfl⟩
abbrev main_v323 : Ref sig .tc := ⟨.hbm, 534, rfl⟩
abbrev main_cst_82 : Ref sig .tc := ⟨.hbm, 535, rfl⟩
abbrev main_v324 : Ref sig .tc := ⟨.hbm, 536, rfl⟩
abbrev main_v325 : Ref sig .tc := ⟨.hbm, 537, rfl⟩
abbrev main_cst_83 : Ref sig .tc := ⟨.hbm, 538, rfl⟩
abbrev main_v326 : Ref sig .tc := ⟨.hbm, 539, rfl⟩
abbrev main_v327 : Ref sig .tc := ⟨.hbm, 540, rfl⟩
abbrev main_cst_84 : Ref sig .tc := ⟨.hbm, 541, rfl⟩
abbrev main_call18_v0 : Ref sig .tc := ⟨.hbm, 542, rfl⟩
abbrev main_call18_v1 : Ref sig .tc := ⟨.hbm, 543, rfl⟩
abbrev main_v328 : Ref sig .tc := ⟨.hbm, 544, rfl⟩
abbrev main_c_85 : Ref sig .tc := ⟨.hbm, 545, rfl⟩
abbrev main_v329 : Ref sig .tc := ⟨.hbm, 546, rfl⟩
abbrev main_v330 : Ref sig .tc := ⟨.hbm, 547, rfl⟩
abbrev main_c_86 : Ref sig .tc := ⟨.hbm, 548, rfl⟩
abbrev main_v331 : Ref sig .tc := ⟨.hbm, 549, rfl⟩
abbrev main_v332 : Ref sig .tc := ⟨.hbm, 550, rfl⟩
abbrev main_v333 : Ref sig .tc := ⟨.hbm, 551, rfl⟩
abbrev main_v334 : Ref sig .tc := ⟨.hbm, 552, rfl⟩
abbrev main_v335 : Ref sig .tc := ⟨.hbm, 553, rfl⟩
abbrev main_v336 : Ref sig .tc := ⟨.hbm, 554, rfl⟩
abbrev main_v337 : Ref sig .tc := ⟨.hbm, 555, rfl⟩
abbrev main_cst_87 : Ref sig .tc := ⟨.hbm, 556, rfl⟩
abbrev main_v338 : Ref sig .tc := ⟨.hbm, 557, rfl⟩
abbrev main_v339 : Ref sig .tc := ⟨.hbm, 558, rfl⟩
abbrev main_v340 : Ref sig .tc := ⟨.hbm, 559, rfl⟩
abbrev main_cst_88 : Ref sig .tc := ⟨.hbm, 560, rfl⟩
abbrev main_v341 : Ref sig .tc := ⟨.hbm, 561, rfl⟩
abbrev main_v342 : Ref sig .tc := ⟨.hbm, 562, rfl⟩
abbrev main_v343 : Ref sig .tc := ⟨.hbm, 563, rfl⟩
abbrev main_v344 : Ref sig .tc := ⟨.hbm, 564, rfl⟩
abbrev main_cst_89 : Ref sig .tc := ⟨.hbm, 565, rfl⟩
abbrev main_call19_cst : Ref sig .tc := ⟨.hbm, 566, rfl⟩
abbrev main_call19_v0 : Ref sig .tc := ⟨.hbm, 567, rfl⟩
abbrev main_call19_v1 : Ref sig .tc := ⟨.hbm, 568, rfl⟩
abbrev main_call19_v2 : Ref sig .tc := ⟨.hbm, 569, rfl⟩
abbrev main_call19_v3 : Ref sig .tc := ⟨.hbm, 570, rfl⟩
abbrev main_call19_v4 : Ref sig .tc := ⟨.hbm, 571, rfl⟩
abbrev main_v345 : Ref sig .tc := ⟨.hbm, 572, rfl⟩
abbrev main_v346 : Ref sig .tc := ⟨.hbm, 573, rfl⟩
abbrev main_v347 : Ref sig .tc := ⟨.hbm, 574, rfl⟩
abbrev main_cst_90 : Ref sig .tc := ⟨.hbm, 575, rfl⟩
abbrev main_v348 : Ref sig .tc := ⟨.hbm, 576, rfl⟩
abbrev main_v349 : Ref sig .tc := ⟨.hbm, 577, rfl⟩
abbrev main_c_91 : Ref sig .tc := ⟨.hbm, 578, rfl⟩
abbrev main_v350 : Ref sig .tc := ⟨.hbm, 579, rfl⟩
abbrev main_v351 : Ref sig .tc := ⟨.hbm, 580, rfl⟩
abbrev main_c_92 : Ref sig .tc := ⟨.hbm, 581, rfl⟩
abbrev main_v352 : Ref sig .tc := ⟨.hbm, 582, rfl⟩
abbrev main_v353 : Ref sig .tc := ⟨.hbm, 583, rfl⟩
abbrev main_v354 : Ref sig .tc := ⟨.hbm, 584, rfl⟩
abbrev main_v355 : Ref sig .tc := ⟨.hbm, 585, rfl⟩
abbrev main_v356 : Ref sig .tc := ⟨.hbm, 586, rfl⟩
abbrev main_c_93 : Ref sig .tc := ⟨.hbm, 587, rfl⟩
abbrev main_v357 : Ref sig .tc := ⟨.hbm, 588, rfl⟩
abbrev main_v358 : Ref sig .tc := ⟨.hbm, 589, rfl⟩
abbrev main_c_94 : Ref sig .tc := ⟨.hbm, 590, rfl⟩
abbrev main_v359 : Ref sig .tc := ⟨.hbm, 591, rfl⟩
abbrev main_v360 : Ref sig .tc := ⟨.hbm, 592, rfl⟩
abbrev main_v361 : Ref sig .tc := ⟨.hbm, 593, rfl⟩
abbrev main_v362 : Ref sig .tc := ⟨.hbm, 594, rfl⟩
abbrev main_v363 : Ref sig .tc := ⟨.hbm, 595, rfl⟩
abbrev main_v364 : Ref sig .tc := ⟨.hbm, 596, rfl⟩
abbrev main_v365 : Ref sig .tc := ⟨.hbm, 597, rfl⟩
abbrev main_c_95 : Ref sig .tc := ⟨.hbm, 598, rfl⟩
abbrev main_v366 : Ref sig .tc := ⟨.hbm, 599, rfl⟩
abbrev main_v367 : Ref sig .tc := ⟨.hbm, 600, rfl⟩
abbrev main_c_96 : Ref sig .tc := ⟨.hbm, 601, rfl⟩
abbrev main_v368 : Ref sig .tc := ⟨.hbm, 602, rfl⟩
abbrev main_v369 : Ref sig .tc := ⟨.hbm, 603, rfl⟩
abbrev main_v370 : Ref sig .tc := ⟨.hbm, 604, rfl⟩
abbrev main_v371 : Ref sig .tc := ⟨.hbm, 605, rfl⟩
abbrev main_v372 : Ref sig .tc := ⟨.hbm, 606, rfl⟩
abbrev main_v373 : Ref sig .tc := ⟨.hbm, 607, rfl⟩
abbrev main_v374 : Ref sig .tc := ⟨.hbm, 608, rfl⟩
abbrev main_v375 : Ref sig .tc := ⟨.hbm, 609, rfl⟩
abbrev main_cst_97 : Ref sig .tc := ⟨.hbm, 610, rfl⟩
abbrev main_v376 : Ref sig .tc := ⟨.hbm, 611, rfl⟩
abbrev main_v377 : Ref sig .tc := ⟨.hbm, 612, rfl⟩
abbrev main_v378 : Ref sig .tc := ⟨.hbm, 613, rfl⟩
abbrev main_cst_98 : Ref sig .tc := ⟨.hbm, 614, rfl⟩
abbrev main_v379 : Ref sig .tc := ⟨.hbm, 615, rfl⟩
abbrev main_cst_99 : Ref sig .tc := ⟨.hbm, 616, rfl⟩
abbrev main_v380 : Ref sig .tc := ⟨.hbm, 617, rfl⟩
abbrev main_v381 : Ref sig .tc := ⟨.hbm, 618, rfl⟩
abbrev main_v382 : Ref sig .tc := ⟨.hbm, 619, rfl⟩
abbrev main_v383 : Ref sig .tc := ⟨.hbm, 620, rfl⟩
abbrev main_v384 : Ref sig .tc := ⟨.hbm, 621, rfl⟩
abbrev main_call20_cst : Ref sig .tc := ⟨.hbm, 622, rfl⟩
abbrev main_call20_v0 : Ref sig .tc := ⟨.hbm, 623, rfl⟩
abbrev main_call20_cst_0 : Ref sig .tc := ⟨.hbm, 624, rfl⟩
abbrev main_call20_v1 : Ref sig .tc := ⟨.hbm, 625, rfl⟩
abbrev main_call20_v2 : Ref sig .tc := ⟨.hbm, 626, rfl⟩
abbrev main_call20_v3 : Ref sig .tc := ⟨.hbm, 627, rfl⟩
abbrev main_call20_v4 : Ref sig .tc := ⟨.hbm, 628, rfl⟩
abbrev main_call20_v5 : Ref sig .tc := ⟨.hbm, 629, rfl⟩
abbrev main_call20_v6 : Ref sig .tc := ⟨.hbm, 630, rfl⟩
abbrev main_call20_cst_1 : Ref sig .tc := ⟨.hbm, 631, rfl⟩
abbrev main_call20_v7 : Ref sig .tc := ⟨.hbm, 632, rfl⟩
abbrev main_call20_v8 : Ref sig .tc := ⟨.hbm, 633, rfl⟩
abbrev main_call20_v9 : Ref sig .tc := ⟨.hbm, 634, rfl⟩
abbrev main_call20_v10 : Ref sig .tc := ⟨.hbm, 635, rfl⟩
abbrev main_v385 : Ref sig .tc := ⟨.hbm, 636, rfl⟩

abbrev nD : Nat := 1
abbrev τ : Topo := Topo.v7x

variable {F : FTy → Type} [FloatOps F]
-- ==== Proof.Reals.lean ====
/- Extended reals that are real numbers, and the two sums the layers turn on: a graph convolution's and an attention
   head's, each over the edges that land on one node. -/
module

public import Idealize.ShloMosaic.PureOps.Ideal

@[expose] public section

noncomputable section

namespace Cert.Gnn

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.exp {x : EReal} (hx : IsReal x) : IsReal (Ideal.exp x) := by
  obtain ⟨a, rfl⟩ := hx; exact ⟨Real.exp a, rfl⟩

/-- A finite sum of real numbers, taken in the extended reals, is the sum taken in the reals. -/
theorem coe_sum {ι : Type} (S : Finset ι) (f : ι → ℝ) : ∑ j ∈ S, (f j : EReal) = ((∑ j ∈ S, f j : ℝ) : EReal) := by
  classical
  induction S using Finset.induction_on with
  | empty => simp
  | insert a s ha ih => rw [Finset.sum_insert ha, Finset.sum_insert ha, ih, EReal.coe_add]

theorem isReal_sum {ι : Type} (S : Finset ι) (f : ι → EReal) (h : ∀ j, IsReal (f j)) : IsReal (∑ j ∈ S, f j) := by
  choose g hg using h
  exact ⟨∑ j ∈ S, g j, by rw [← coe_sum]; exact Finset.sum_congr rfl fun j _ => hg j⟩

/-- Division by a real number that is not zero gives a real number. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]; exact ⟨a * (1 / b), (EReal.coe_mul _ _).symm⟩

/-- The graph convolution at one node: scaling the gathered rows by the source's factor before the sum and the sum by
    the node's factor `d` after it is scaling each row by the product of the two. -/
theorem gcn_sum {E : Type} (S : Finset E) (a t u : E → EReal) (d : EReal) (ha : ∀ j, IsReal (a j)) (ht : ∀ j, IsReal (t j))
    (hd : IsReal d) (hu : ∀ j ∈ S, u j = d) :
    (0 + ∑ j ∈ S, a j * t j) * d = 0 + ∑ j ∈ S, a j * (t j * u j) := by
  rw [Finset.sum_congr (s₁ := S) (f := fun j => a j * (t j * u j)) rfl fun j hj => by rw [hu j hj]]
  choose a' ha' using ha
  choose t' ht' using ht
  obtain ⟨d', rfl⟩ := hd
  simp only [ha', ht', ← EReal.coe_mul, coe_sum, zero_add, Finset.sum_mul, mul_assoc]

/-- An attention head at one node: the weights `exp (e - x)` over their sum guarded by `eps * exp (m - x)`, summed
    against the rows `w`, are the sum of the rows weighted by `exp (e - m)` over the sum of those weights guarded by
    `eps`. Both sums run over the edges that land on the node (`S` indexes them with a channel, `T` without), at which
    the two stabilizers `x` and `m` are the node's. -/
theorem gat_sum {E3 E2 : Type} (S : Finset E3) (T : Finset E2) (q : E3 → E2) (w : E3 → EReal) (e x' m' : E2 → EReal)
    (D G : E3 → EReal) (x m : EReal) (eps : ℝ)
    (heps : 0 < eps) (hw : ∀ j, IsReal (w j)) (he : ∀ j, IsReal (e j)) (hx : IsReal x) (hm : IsReal m)
    (hTx : ∀ j ∈ T, x' j = x) (hTm : ∀ j ∈ T, m' j = m) (hSx : ∀ j ∈ S, x' (q j) = x) (hSm : ∀ j ∈ S, m' (q j) = m)
    (hD : ∀ j ∈ S, D j = 0 + ∑ k ∈ T, Ideal.exp (e k - x' k))
    (hG : ∀ j ∈ S, G j = (eps : EReal) * Ideal.exp (m - x)) :
    Ideal.div (0 + ∑ j ∈ S, w j * Ideal.exp (e (q j) - m' (q j))) ((0 + ∑ k ∈ T, Ideal.exp (e k - m' k)) + (eps : EReal))
      = 0 + ∑ j ∈ S, w j * Ideal.div (Ideal.exp (e (q j) - x' (q j))) (D j + G j) := by
  rw [Finset.sum_congr (s₁ := S) (f := fun j => w j * Ideal.exp (e (q j) - m' (q j))) rfl fun j hj => by rw [hSm j hj],
    Finset.sum_congr (s₁ := T) (f := fun k => Ideal.exp (e k - m' k)) rfl fun j hj => by rw [hTm j hj],
    Finset.sum_congr (s₁ := S) (f := fun j => w j * Ideal.div (Ideal.exp (e (q j) - x' (q j))) (D j + G j)) rfl
      fun j hj => by rw [hSx j hj, hD j hj, hG j hj, Finset.sum_congr (s₁ := T) (f := fun k => Ideal.exp (e k - x' k)) rfl fun k hk => by rw [hTx k hk]]]
  choose w' hw' using hw
  choose e' he' using he
  obtain ⟨x, rfl⟩ := hx
  obtain ⟨m, rfl⟩ := hm
  have hexp : ∀ a : ℝ, Ideal.exp (a : EReal) = (Real.exp a : EReal) := fun _ => rfl
  simp only [hw', he', ← EReal.coe_sub, hexp, ← EReal.coe_mul, coe_sum, zero_add, ← EReal.coe_add]
  have hT : (0 : ℝ) ≤ ∑ k ∈ T, Real.exp (e' k - m) := Finset.sum_nonneg fun k _ => (Real.exp_pos _).le
  have hA : (∑ k ∈ T, Real.exp (e' k - m)) + eps ≠ 0 := by linarith
  have hc : ∀ a : ℝ, Real.exp (a - x) = Real.exp (m - x) * Real.exp (a - m) := fun a => by
    rw [← Real.exp_add]; congr 1; ring
  have hB : (∑ k ∈ T, Real.exp (e' k - x)) + eps * Real.exp (m - x)
      = Real.exp (m - x) * ((∑ k ∈ T, Real.exp (e' k - m)) + eps) := by
    rw [Finset.sum_congr rfl fun k _ => hc (e' k), ← Finset.mul_sum]; ring
  have hB0 : (∑ k ∈ T, Real.exp (e' k - x)) + eps * Real.exp (m - x) ≠ 0 := by
    rw [hB]; exact mul_ne_zero (Real.exp_pos _).ne' hA
  rw [Ideal.div_coe hA]
  simp only [Ideal.div_coe hB0, ← EReal.coe_mul, coe_sum]
  congr 1
  rw [Finset.sum_mul]
  refine Finset.sum_congr rfl fun j _ => ?_
  rw [hB, hc (e' (q j))]
  have := (Real.exp_pos (m - x)).ne'
  field_simp

end Cert.Gnn

end
-- ==== Proof.Arrays.lean ====
/- Arrays of real numbers: which operations of the two programs keep every element a real number. -/
module

public import Idealize.ShloMosaic.PureOps.Ideal
public import Idealize.ShloMosaic.PureOps.Reduce
public import Idealize.ShloMosaic.Lib.Pointwise.Index
public import proofs.«01_k».proof.Proof.Reals

@[expose] public section

noncomputable section

namespace Cert.Gnn

open Idealize.ShloMosaic

/-- The words of the constants the programs name, read as extended reals. -/
theorem word_zero : Ideal.ofBits .f32 0x00000000#32 = 0 := by simp [Ideal.ofBits, Ideal.ieee]

theorem word_one : Ideal.ofBits .f32 0x3F800000#32 = 1 := by
  simp [Ideal.ofBits, Ideal.ieee, -EReal.coe_mul]; norm_num

theorem word_top : Ideal.ofBits .f32 0x7F800000#32 = ⊤ := by simp [Ideal.ofBits, Ideal.ieee]

theorem word_bot : Ideal.ofBits .f32 0xFF800000#32 = ⊥ := by simp [Ideal.ofBits, Ideal.ieee]

/-- The softmax guard's word is a positive real number. -/
theorem word_eps : ∃ r : ℝ, 0 < r ∧ Ideal.ofBits .f32 0x24E69595#32 = (r : EReal) := by
  refine ⟨_, ?_, by simp [Ideal.ofBits, Ideal.ieee, -EReal.coe_mul]; rfl⟩
  positivity

/-- The leaky slope's word is a real number. -/
theorem word_slope : IsReal (Ideal.ofBits .f32 0x3E4CCCCD#32) := by
  refine ⟨_, by simp [Ideal.ofBits, Ideal.ieee, -EReal.coe_mul]; rfl⟩

/-- Every element is a real number. -/
def AllReal {s : Shape} (x : s.Idx → EReal) : Prop := ∀ i, IsReal (x i)

section
variable {s t si su : Shape}

theorem AllReal.const {b : BitVec 32} (h : IsReal (Ideal.ofBits .f32 b)) : AllReal (constant (F := Ideal) s .f32 b) :=
  fun _ => h

theorem AllReal.zero : AllReal (constant (F := Ideal) s .f32 0x00000000#32) := .const ⟨0, word_zero⟩

theorem AllReal.one : AllReal (constant (F := Ideal) s .f32 0x3F800000#32) := .const ⟨1, word_one⟩

theorem AllReal.add {x y : FVec Ideal s .f32} (hx : AllReal x) (hy : AllReal y) : AllReal (addf x y) :=
  fun i => (hx i).add (hy i)

theorem AllReal.sub {x y : FVec Ideal s .f32} (hx : AllReal x) (hy : AllReal y) : AllReal (subf x y) :=
  fun i => (hx i).sub (hy i)

theorem AllReal.mul {x y : FVec Ideal s .f32} (hx : AllReal x) (hy : AllReal y) : AllReal (mulf x y) :=
  fun i => (hx i).mul (hy i)

theorem AllReal.exp {x : FVec Ideal s .f32} (hx : AllReal x) : AllReal (Host.exp x) := fun i => (hx i).exp

theorem AllReal.expm1 {x : FVec Ideal s .f32} (hx : AllReal x) : AllReal (Host.expm1 x) :=
  fun i => (hx i).exp.sub ⟨1, rfl⟩

theorem AllReal.select {c : IVec s 1} {x y : FVec Ideal s .f32} (hx : AllReal x) (hy : AllReal y) : AllReal (select c x y) :=
  fun i => by
    show IsReal (if c i = 1 then x i else y i)
    split
    · exact hx i
    · exact hy i

theorem AllReal.bcast {dims : Fin s.rank → Fin t.rank} {h : s.BroadcastsInDim t dims} {x : FVec Ideal s .f32} (hx : AllReal x) :
    AllReal (broadcastInDim t dims h x) := fun _ => hx _

theorem AllReal.gather {w : Nat} {d : GatherDims s si t} {x : FVec Ideal s .f32} {idx : IVec si w} (hx : AllReal x) :
    AllReal (Host.gather d x idx) := fun _ => hx _

theorem AllReal.shapeCast {h : s.ShapeCasts t} {x : FVec Ideal s .f32} (hx : AllReal x) : AllReal (shapeCast t x h) :=
  fun _ => hx _

theorem AllReal.reduceAdd {u : Shape} {axes : List (Fin s.rank)} {h : s.ReducesTo axes t} {hu : 0 < u.numel}
    {x : FVec Ideal s .f32} {v : FVec Ideal u .f32} (hx : AllReal x) (hv : AllReal v) : AllReal (Host.reduceAdd x v h hu) :=
  fun _ => (hv _).add (isReal_sum _ _ hx)

theorem AllReal.scatterAdd {w : Nat} {d : ScatterDims s si su} {x : FVec Ideal s .f32} {idx : IVec si w}
    {u : FVec Ideal su .f32} (hx : AllReal x) (hu : AllReal u) : AllReal (Host.scatterAdd d x idx u) :=
  fun i => (hx i).add (isReal_sum _ _ hu)

theorem AllReal.dot {d : DotDims s su t} {x : FVec Ideal s .f32} {y : FVec Ideal su .f32} (hx : AllReal x) (hy : AllReal y) :
    AllReal (Host.dotGeneral d none x y) :=
  fun _ => isReal_zero.add (isReal_sum _ _ fun _ => (hx _).mul (hy _))

/-- The maximum of finitely many real numbers, at least one, taken from minus infinity, is a real number. -/
theorem isReal_fold_max {ι : Type} (S : Finset ι) (f : ι → EReal) (hf : ∀ i, IsReal (f i)) (hS : S.Nonempty) :
    IsReal (S.fold max ⊥ f) := by
  classical
  induction hS using Finset.Nonempty.cons_induction with
  | singleton a => simpa using hf a
  | cons a s ha hs ih => rw [Finset.fold_cons]; exact (hf a).max ih

/-- The largest entry of every column of a matrix of real numbers with at least one row is a real number. -/
theorem AllReal.columnMax {N H : Nat} (hN : 0 < N) {h : (⟨2, ![N, H]⟩ : Shape).ReducesTo [0] ⟨1, ![H]⟩}
    {hu : 0 < (⟨0, ![]⟩ : Shape).numel} {x : FVec Ideal ⟨2, ![N, H]⟩ .f32} (hx : AllReal x) :
    AllReal (Host.reduce (FloatOps.maximumf (F := Ideal) (φ := .f32)) x (constant (F := Ideal) ⟨0, ![]⟩ .f32 0xFF800000#32) h hu) := by
  intro j
  show IsReal (Host.reduce (max : EReal → EReal → EReal) x _ h hu j)
  rw [Host.reduce_eq_fold, show constant (F := Ideal) ⟨0, ![]⟩ .f32 0xFF800000#32 (Shape.Idx.first hu) = (⊥ : EReal) from word_bot]
  refine isReal_fold_max _ _ hx ⟨ix2 ⟨0, hN⟩ (j 0), Finset.mem_filter.2 ⟨Finset.mem_univ _, ?_⟩⟩
  funext b
  obtain rfl : b = 0 := Subsingleton.elim _ _
  rfl

/-- An entry where its size is below infinity, zero elsewhere, is a real number. -/
theorem AllReal.finiteOr {x y z : FVec Ideal s .f32} (hy : ∀ i, y i = (⊤ : EReal)) (hz : AllReal z) :
    AllReal (Idealize.ShloMosaic.select (cmpf .olt (Host.absf x) y) x z) := by
  intro i
  show IsReal (if BitVec.ofBool (decide (max (x i : EReal) (-(x i : EReal)) < (y i : EReal))) = 1 then x i else z i)
  rw [hy i]
  by_cases h : max (x i : EReal) (-(x i : EReal)) < ⊤
  · rw [if_pos (by simp [h])]
    have h1 : (x i : EReal) ≠ ⊤ := fun e => by rw [e] at h; simp at h
    have h2 : (x i : EReal) ≠ ⊥ := fun e => by rw [e] at h; simp at h
    exact ⟨_, (EReal.coe_toReal h1 h2).symm⟩
  · rw [if_neg (by simp [h])]; exact hz i

end

end Cert.Gnn

end
-- ==== Proof.Landing.lean ====
/- Where an edge's update lands. Every scatter of the layers adds an edge's row to the row of its target node, and
   every gather at the (wrapped) targets reads the row of the target node: an update that lands on a row comes from an
   edge at which the gather reads that same row. -/
module

public import Idealize.ShloMosaic.PureOps.Dims
public import Idealize.ShloMosaic.Lib.Pointwise.Index

@[expose] public section

namespace Cert.Gnn

open Idealize.ShloMosaic

variable {N E H C : Nat}

/-- The read of one entry of a vector per edge: `x[idx]`. -/
abbrev gd1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The read of one row of a matrix per edge: `x[idx]`. -/
abbrev gd2 (N E H : Nat) (wf : GatherDims.WF ⟨2, ![N, H]⟩ ⟨2, ![E, 1]⟩ ⟨2, ![E, H]⟩ [1] [0] [] [0] [] 1 ![1, H]) :
    GatherDims ⟨2, ![N, H]⟩ ⟨2, ![E, 1]⟩ ⟨2, ![E, H]⟩ where
  offsetDims := [1]
  collapsedSliceDims := [0]
  operandBatchingDims := []
  startIndicesBatchingDims := []
  startIndexMap := [0]
  indexVectorDim := 1
  sliceSizes := ![1, H]
  wf := wf

/-- The sum of one row per edge into a matrix: `x.at[idx].add(u)`. -/
abbrev sd2 (N E H : Nat) (wf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ where
  updateWindowDims := [1]
  insertedWindowDims := [0]
  scatterDimsToOperandDims := [0]
  indexVectorDim := 1
  wf := wf

/-- The sum of one matrix per edge into a stack of matrices: `x.at[idx].add(u)`. -/
abbrev sd3 (N E H C : Nat) (wf : ScatterDims.WF ⟨3, ![N, H, C]⟩ ⟨2, ![E, 1]⟩ ⟨3, ![E, H, C]⟩ [1, 2] [0] [0] 1) :
    ScatterDims ⟨3, ![N, H, C]⟩ ⟨2, ![E, 1]⟩ ⟨3, ![E, H, C]⟩ where
  updateWindowDims := [1, 2]
  insertedWindowDims := [0]
  scatterDimsToOperandDims := [0]
  indexVectorDim := 1
  wf := wf

theorem sd2_start0 (wf) (col : IVec ⟨2, ![E, 1]⟩ 32) (j : (⟨2, ![E, H]⟩ : Shape).Idx) :
    (sd2 N E H wf).start j col 0 = (col (ix2 (j 0) 0)).toInt := by
  unfold ScatterDims.start
  rw [dif_pos (List.mem_singleton.2 rfl)]
  congr 2
  funext b
  match b with
  | ⟨0, _⟩ => rfl
  | ⟨1, _⟩ => rfl

theorem sd3_start0 (wf) (col : IVec ⟨2, ![E, 1]⟩ 32) (j : (⟨3, ![E, H, C]⟩ : Shape).Idx) :
    (sd3 N E H C wf).start j col 0 = (col (ix2 (j 0) 0)).toInt := by
  unfold ScatterDims.start
  rw [dif_pos (List.mem_singleton.2 rfl)]
  congr 2
  funext b
  match b with
  | ⟨0, _⟩ => rfl
  | ⟨1, _⟩ => rfl

/-- An edge's row lands on the row its target names, at the same column. -/
theorem sd2_lands (wf) (col : IVec ⟨2, ![E, 1]⟩ 32) (j : (⟨2, ![E, H]⟩ : Shape).Idx) (i : (⟨2, ![N, H]⟩ : Shape).Idx)
    (h : (sd2 N E H wf).resultIdx? j col = some i) :
    (col (ix2 (j 0) 0)).toInt = ((i 0).val : Int) ∧ (j 1).val = (i 1).val := by
  unfold ScatterDims.resultIdx? at h
  split at h
  · next hb =>
    have e := Option.some.inj h
    have e0 := congrArg Fin.val (congrFun e 0)
    have e1 := congrArg Fin.val (congrFun e 1)
    have b0 := (hb 0).1
    have s0 := sd2_start0 (N := N) wf col j
    have w0 : (sd2 N E H wf).window j 0 = 0 := rfl
    have s1 : (sd2 N E H wf).start j col 1 = 0 := rfl
    have w1 : (sd2 N E H wf).window j 1 = (j 1).val := rfl
    simp only [s0, w0, s1, w1] at e0 e1 b0
    omega
  · cases h

/-- An edge's matrix lands on the one its target names, at the same row and column. -/
theorem sd3_lands (wf) (col : IVec ⟨2, ![E, 1]⟩ 32) (j : (⟨3, ![E, H, C]⟩ : Shape).Idx) (i : (⟨3, ![N, H, C]⟩ : Shape).Idx)
    (h : (sd3 N E H C wf).resultIdx? j col = some i) :
    (col (ix2 (j 0) 0)).toInt = ((i 0).val : Int) ∧ (j 1).val = (i 1).val := by
  unfold ScatterDims.resultIdx? at h
  split at h
  · next hb =>
    have e := Option.some.inj h
    have e0 := congrArg Fin.val (congrFun e 0)
    have e1 := congrArg Fin.val (congrFun e 1)
    have b0 := (hb 0).1
    have s0 := sd3_start0 (N := N) wf col j
    have w0 : (sd3 N E H C wf).window j 0 = 0 := rfl
    have s1 : (sd3 N E H C wf).start j col 1 = 0 := rfl
    have w1 : (sd3 N E H C wf).window j 1 = (j 1).val := rfl
    simp only [s0, w0, s1, w1] at e0 e1 b0
    omega
  · cases h

/-- A read of a vector starts at the edge's index, held in range. -/
theorem gd1_start0 (wf) (idx : IVec ⟨2, ![E, 1]⟩ 32) (k : Fin E) :
    (gd1 N E wf).start (ix1 k) idx 0 = min (idx (ix2 k 0)).toInt.toNat (N - 1) := by
  unfold GatherDims.start
  rw [dif_pos (List.mem_singleton.2 rfl)]
  congr 4
  funext b
  match b with
  | ⟨0, _⟩ => rfl
  | ⟨1, _⟩ => rfl

/-- A read of a matrix's row starts at the edge's index, held in range. -/
theorem gd2_start0 (wf) (idx : IVec ⟨2, ![E, 1]⟩ 32) (j : (⟨2, ![E, H]⟩ : Shape).Idx) :
    (gd2 N E H wf).start j idx 0 = min (idx (ix2 (j 0) 0)).toInt.toNat (N - 1) := by
  unfold GatherDims.start
  rw [dif_pos (List.mem_singleton.2 rfl)]
  congr 4
  funext b
  match b with
  | ⟨0, _⟩ => rfl
  | ⟨1, _⟩ => rfl

/-- A read at an edge whose index names row `n` reads row `n` of the vector. -/
theorem gd1_reads (wf) (idx : IVec ⟨2, ![E, 1]⟩ 32) (k : Fin E) (n : Fin N) (h : (idx (ix2 k 0)).toInt = (n.val : Int)) :
    (gd1 N E wf).operandIdx (ix1 k) idx = ix1 n := by
  funext a
  obtain rfl : a = 0 := Subsingleton.elim _ _
  refine Fin.ext ?_
  show (gd1 N E wf).start (ix1 k) idx 0 + 0 + 0 = n.val
  have := n.isLt
  rw [gd1_start0, h]; omega

/-- A read at an edge whose index names row `n` reads row `n` of the matrix, at the same column. -/
theorem gd2_reads (wf) (idx : IVec ⟨2, ![E, 1]⟩ 32) (j : (⟨2, ![E, H]⟩ : Shape).Idx) (n : Fin N)
    (h : (idx (ix2 (j 0) 0)).toInt = (n.val : Int)) :
    (gd2 N E H wf).operandIdx j idx = ix2 n (j 1) := by
  funext a
  refine Fin.ext ?_
  match a with
  | ⟨0, _⟩ =>
    show (gd2 N E H wf).start j idx 0 + 0 + 0 = n.val
    have := n.isLt
    rw [gd2_start0, h]; omega
  | ⟨1, _⟩ =>
    show 0 + 0 + (j 1).val = (j 1).val
    omega

/-- A vector read at an edge is read where the matrix's row is read. -/
theorem gd1_gd2 (wf1 wf2) (idx : IVec ⟨2, ![E, 1]⟩ 32) (j : (⟨2, ![E, H]⟩ : Shape).Idx) :
    (gd1 N E wf1).operandIdx (ix1 (j 0)) idx = ix1 ((gd2 N E H wf2).operandIdx j idx 0) := by
  funext a
  obtain rfl : a = 0 := Subsingleton.elim _ _
  refine Fin.ext ?_
  exact congrArg (· + 0 + 0) ((gd1_start0 wf1 idx (j 0)).trans (gd2_start0 wf2 idx j).symm)

/-- Two indexings agree wherever the first is not negative. -/
def Wraps (col wrp : IVec ⟨2, ![E, 1]⟩ 32) : Prop := ∀ k, 0 ≤ (col k).toInt → wrp k = col k

/-- The row an edge's row lands on is the entry the read at the wrapped target reads. -/
theorem lands_reads1 (wfs wfg) (col wrp : IVec ⟨2, ![E, 1]⟩ 32) (hw : Wraps col wrp) (j : (⟨2, ![E, H]⟩ : Shape).Idx)
    (i : (⟨2, ![N, H]⟩ : Shape).Idx) (h : (sd2 N E H wfs).resultIdx? j col = some i) :
    (gd1 N E wfg).operandIdx (ix1 (j 0)) wrp = ix1 (i 0) := by
  have h0 := (sd2_lands wfs col j i h).1
  exact gd1_reads wfg wrp (j 0) (i 0) (by rw [hw _ (by omega)]; exact h0)

/-- The element an edge's row lands on is the element the read at the wrapped target reads. -/
theorem lands_reads2 (wfs wfg) (col wrp : IVec ⟨2, ![E, 1]⟩ 32) (hw : Wraps col wrp) (j : (⟨2, ![E, H]⟩ : Shape).Idx)
    (i : (⟨2, ![N, H]⟩ : Shape).Idx) (h : (sd2 N E H wfs).resultIdx? j col = some i) :
    (gd2 N E H wfg).operandIdx j wrp = i := by
  obtain ⟨h0, h1⟩ := sd2_lands wfs col j i h
  rw [gd2_reads wfg wrp j (i 0) (by rw [hw _ (by omega)]; exact h0)]
  funext a
  match a with
  | ⟨0, _⟩ => rfl
  | ⟨1, _⟩ => exact Fin.ext h1

/-- The row of a stack an edge's matrix lands on is the row the read at the wrapped target reads. -/
theorem lands_reads3 (wfs wfg) (col wrp : IVec ⟨2, ![E, 1]⟩ 32) (hw : Wraps col wrp) (j : (⟨3, ![E, H, C]⟩ : Shape).Idx)
    (i : (⟨3, ![N, H, C]⟩ : Shape).Idx) (h : (sd3 N E H C wfs).resultIdx? j col = some i) :
    (gd2 N E H wfg).operandIdx (ix2 (j 0) (j 1)) wrp = ix2 (i 0) (i 1) := by
  obtain ⟨h0, h1⟩ := sd3_lands wfs col j i h
  rw [gd2_reads wfg wrp (ix2 (j 0) (j 1)) (i 0) (by
    show (wrp (ix2 (j 0) 0)).toInt = _
    rw [hw _ (by omega)]; exact h0)]
  funext a
  match a with
  | ⟨0, _⟩ => rfl
  | ⟨1, _⟩ => exact Fin.ext h1

end Cert.Gnn
-- ==== Proof.Layers.lean ====
/- The layers of the two programs as functions of arrays of extended reals, each written as the programs write it, and
   the two pairs of layers that compute the same thing: the graph convolution and the attention layer. -/
module

public import proofs.«01_k».proof.Proof.Arrays
public import proofs.«01_k».proof.Proof.Landing

@[expose] public section

noncomputable section

namespace Cert.Gnn

open Idealize.ShloMosaic

/-- An array of extended reals. -/
abbrev Arr (s : Shape) : Type := FVec Ideal s .f32

abbrev S0 : Shape := ⟨0, ![]⟩
abbrev SN : Shape := ⟨1, ![10000]⟩
abbrev SE : Shape := ⟨1, ![330000]⟩
abbrev SE1 : Shape := ⟨2, ![330000, 1]⟩
abbrev SN1 : Shape := ⟨2, ![10000, 1]⟩
abbrev SNH (H : Nat) : Shape := ⟨2, ![10000, H]⟩
abbrev SEH (H : Nat) : Shape := ⟨2, ![330000, H]⟩
abbrev SNHC (H : Nat) : Shape := ⟨3, ![10000, H, 64]⟩
abbrev SEHC (H : Nat) : Shape := ⟨3, ![330000, H, 64]⟩

/-- The array all of whose elements are the one in `x`. -/
abbrev splat {α : Type} (t : Shape) (h : S0.BroadcastsInDim t (![] : Fin 0 → Fin t.rank)) (x : S0.Idx → α) : t.Idx → α :=
  broadcastInDim t ![] h x

abbrev c0 : Arr S0 := constant S0 .f32 0x00000000#32
abbrev c1 : Arr S0 := constant S0 .f32 0x3F800000#32
abbrev cSlope : Arr S0 := constant S0 .f32 0x3E4CCCCD#32
abbrev cEps : Arr S0 := constant S0 .f32 0x24E69595#32
abbrev cBot : Arr S0 := constant S0 .f32 0xFF800000#32
abbrev cTop : Arr S0 := constant S0 .f32 0x7F800000#32

theorem bE : S0.BroadcastsInDim SE (![] : Fin 0 → Fin SE.rank) := by decide
theorem bN : S0.BroadcastsInDim SN (![] : Fin 0 → Fin SN.rank) := by decide
theorem bE1 : SE.BroadcastsInDim SE1 (![0] : Fin 1 → Fin SE1.rank) := by decide
theorem bN1 : SN.BroadcastsInDim SN1 (![0] : Fin 1 → Fin SN1.rank) := by decide
theorem h0 : 0 < S0.numel := by decide

/-- One node index per edge, as a column. -/
def col (s : IVec SE 32) : IVec SE1 32 := broadcastInDim SE1 ![0] bE1 s

/-- One node index per edge with a negative one counted from the end, as a column. -/
def wrap (s : IVec SE 32) : IVec SE1 32 :=
  broadcastInDim SE1 ![0] bE1
    (select (cmpi .slt s (splat SE bE (constantI S0 32 0#32))) (addi s (splat SE bE (constantI S0 32 10000#32))) s)

theorem wraps (s : IVec SE 32) : Wraps (col s) (wrap s) := by
  intro k hk
  have key : ∀ v : BitVec 32, 0 ≤ v.toInt → Scalar.select (IntOp.cmpi .slt v 0#32) (IntOp.addi v 10000#32) v = v := by
    intro v hv
    have : IntOp.cmpi .slt v 0#32 = 0#1 := by
      show BitVec.ofBool (v.slt 0#32) = 0#1
      rw [show v.slt 0#32 = false from by simp [BitVec.slt]; exact hv]; rfl
    rw [this]; rfl
  exact key _ hk

/-! ### The normalizing factors -/

/-- The number of edges into each node. -/
def deg (wf : ScatterDims.WF SN SE1 SE [] [0] [0] 1) (dst : IVec SE 32) : Arr SN :=
  Host.scatterAdd { updateWindowDims := [], insertedWindowDims := [0], scatterDimsToOperandDims := [0], indexVectorDim := 1, wf := wf }
    (splat SN bN c0) (col dst) (splat SE bE c1)

/-- One over the square root of a positive degree, zero at another. -/
def dinv (d : Arr SN) : Arr SN :=
  select (cmpf .ogt d (splat SN bN c0))
    (Host.divf (splat SN bN c1) (Host.sqrt (select (cmpf .ogt d (splat SN bN c0)) d (splat SN bN (id c1)))))
    (splat SN bN (id c0))

theorem deg_real (wf) (dst : IVec SE 32) : AllReal (deg wf dst) := AllReal.scatterAdd (.bcast .zero) (.bcast .one)

/-- The factors are real numbers. -/
theorem dinv_real {d : Arr SN} (hd : AllReal d) : AllReal (dinv d) := by
  intro i
  obtain ⟨r, hr⟩ := hd i
  show IsReal (if BitVec.ofBool (decide (Ideal.ofBits .f32 0x00000000#32 < (d i : EReal))) = 1
    then Ideal.div (Ideal.ofBits .f32 0x3F800000#32) (Ideal.sqrt (if BitVec.ofBool (decide (Ideal.ofBits .f32 0x00000000#32 < (d i : EReal))) = 1
      then (d i : EReal) else Ideal.ofBits .f32 0x3F800000#32)) else Ideal.ofBits .f32 0x00000000#32)
  rw [word_zero, word_one]
  by_cases h : (0 : EReal) < d i
  · rw [if_pos (by simp [h]), if_pos (by simp [h])]
    rw [hr] at h ⊢
    have h' : 0 < r := EReal.coe_pos.1 h
    have hs : Ideal.sqrt (r : EReal) = (Real.sqrt r : EReal) := by
      show (if r < 0 then (⊥ : EReal) else (Real.sqrt r : EReal)) = _
      rw [if_neg (not_lt.2 h'.le)]
    rw [hs]
    refine IsReal.div ⟨1, rfl⟩ ⟨_, rfl⟩ ?_
    have := Real.sqrt_pos.2 h'
    exact fun e => this.ne' (EReal.coe_eq_zero.1 e)
  · rw [if_neg (by simp [h])]; exact isReal_zero

/-! ### The graph convolution -/

theorem bN64 : S0.BroadcastsInDim (SNH 64) (![] : Fin 0 → Fin (SNH 64).rank) := by decide
theorem bNN : SN1.BroadcastsInDim (SNH 64) (![0, 1] : Fin 2 → Fin (SNH 64).rank) := by decide
theorem bEE : SE1.BroadcastsInDim (SEH 64) (![0, 1] : Fin 2 → Fin (SEH 64).rank) := by decide
theorem b64a : (⟨1, ![64]⟩ : Shape).BroadcastsInDim ⟨2, ![1, 64]⟩ (![1] : Fin 1 → Fin 2) := by decide
theorem b64b : (⟨2, ![1, 64]⟩ : Shape).BroadcastsInDim (SNH 64) (![0, 1] : Fin 2 → Fin (SNH 64).rank) := by decide

/-- One factor per node, along the row. -/
abbrev rowsN (d : Arr SN) : Arr (SNH 64) := broadcastInDim (SNH 64) ![0, 1] bNN (broadcastInDim SN1 ![0] bN1 d)
/-- One factor per edge, along the row. -/
abbrev rowsE (d : Arr SE) : Arr (SEH 64) := broadcastInDim (SEH 64) ![0, 1] bEE (broadcastInDim SE1 ![0] bE1 d)
/-- A bias, added to every row. -/
abbrev bias64 (b : Arr ⟨1, ![64]⟩) : Arr (SNH 64) := broadcastInDim (SNH 64) ![0, 1] b64b (broadcastInDim ⟨2, ![1, 64]⟩ ![1] b64a b)

section
variable (wg1 : GatherDims.WF SN SE1 SE [] [0] [] [0] [] 1 ![1])
  (wg2 : GatherDims.WF (SNH 64) SE1 (SEH 64) [1] [0] [] [0] [] 1 ![1, 64])
  (ws2 : ScatterDims.WF (SNH 64) SE1 (SEH 64) [1] [0] [0] 1)

/-- The kernel's graph convolution: the rows scaled at the source, summed into the targets, scaled there. -/
def gcnK (src dst : IVec SE 32) (d : Arr SN) (h : Arr (SNH 64)) (b : Arr ⟨1, ![64]⟩) : Arr (SNH 64) :=
  addf (mulf (Host.scatterAdd (sd2 10000 330000 64 ws2) (splat (SNH 64) bN64 c0) (col dst)
    (Host.gather (gd2 10000 330000 64 wg2) (mulf h (rowsN d)) (wrap src))) (rowsN d)) (bias64 b)

/-- The reference's graph convolution: the rows scaled per edge by the product of the two factors, summed into the targets. -/
def gcnR (src dst : IVec SE 32) (d : Arr SN) (h : Arr (SNH 64)) (b : Arr ⟨1, ![64]⟩) : Arr (SNH 64) :=
  addf (Host.scatterAdd (sd2 10000 330000 64 ws2) (splat (SNH 64) bN64 c0) (col dst)
    (mulf (Host.gather (gd2 10000 330000 64 wg2) h (wrap src))
      (rowsE (mulf (Host.gather (gd1 10000 330000 wg1) d (wrap src)) (Host.gather (gd1 10000 330000 wg1) d (wrap dst))))))
    (bias64 b)

/-- The two graph convolutions are one function on real numbers. -/
theorem gcn_eq (src dst : IVec SE 32) (d : Arr SN) (h : Arr (SNH 64)) (b : Arr ⟨1, ![64]⟩) (hd : AllReal d) (hh : AllReal h) :
    gcnK wg2 ws2 src dst d h b = gcnR wg1 wg2 ws2 src dst d h b := by
  funext i
  have hsrc : ∀ j : (SEH 64).Idx, (gd1 10000 330000 wg1).operandIdx (ix1 (j 0)) (wrap src)
      = ix1 ((gd2 10000 330000 64 wg2).operandIdx j (wrap src) 0) := fun j => gd1_gd2 wg1 wg2 (wrap src) j
  have key := gcn_sum (Finset.univ.filter fun j => (sd2 10000 330000 64 ws2).resultIdx? j (col dst) = some i)
    (fun j => h ((gd2 10000 330000 64 wg2).operandIdx j (wrap src)))
    (fun j => d ((gd1 10000 330000 wg1).operandIdx (ix1 (j 0)) (wrap src)))
    (fun j => d ((gd1 10000 330000 wg1).operandIdx (ix1 (j 0)) (wrap dst)))
    (d (ix1 (i 0))) (fun _ => hh _) (fun _ => hd _) (hd _)
    (fun j hj => congrArg d (lands_reads1 ws2 wg1 (col dst) (wrap dst) (wraps dst) j i (Finset.mem_filter.1 hj).2))
  have hK : gcnK wg2 ws2 src dst d h b i = (Ideal.ofBits .f32 0x00000000#32
      + ∑ j ∈ Finset.univ.filter (fun j => (sd2 10000 330000 64 ws2).resultIdx? j (col dst) = some i),
        h ((gd2 10000 330000 64 wg2).operandIdx j (wrap src)) * rowsN d ((gd2 10000 330000 64 wg2).operandIdx j (wrap src)))
      * rowsN d i + bias64 b i := rfl
  have hR : gcnR wg1 wg2 ws2 src dst d h b i = (Ideal.ofBits .f32 0x00000000#32
      + ∑ j ∈ Finset.univ.filter (fun j => (sd2 10000 330000 64 ws2).resultIdx? j (col dst) = some i),
        h ((gd2 10000 330000 64 wg2).operandIdx j (wrap src))
          * rowsE (mulf (Host.gather (gd1 10000 330000 wg1) d (wrap src)) (Host.gather (gd1 10000 330000 wg1) d (wrap dst))) j)
      + bias64 b i := rfl
  have hrE : ∀ (x : Arr SE) j, rowsE x j = x (ix1 (j 0)) := fun x j => congrArg x (funext fun a => by
    obtain rfl : a = 0 := Subsingleton.elim _ _
    rfl)
  have hrN : ∀ j, rowsN d j = d (ix1 (j 0)) := fun j => congrArg d (funext fun a => by
    obtain rfl : a = 0 := Subsingleton.elim _ _
    rfl)
  rw [hK, hR, word_zero, hrN i]
  refine congrArg (fun z : EReal => z + bias64 b i) ?_
  simp only [hrN, hrE]
  simp only [hsrc] at key
  refine key.trans ?_
  refine congrArg (fun z : EReal => 0 + z) (Finset.sum_congr rfl fun j _ => ?_)
  rw [← hsrc j]
  rfl

/-- The graph convolution of real numbers is made of real numbers. -/
theorem gcn_real (src dst : IVec SE 32) {d : Arr SN} {h : Arr (SNH 64)} {b : Arr ⟨1, ![64]⟩} (hd : AllReal d) (hh : AllReal h)
    (hb : AllReal b) : AllReal (gcnK wg2 ws2 src dst d h b) :=
  .add (.mul (.scatterAdd (.bcast .zero) (.gather (.mul hh (.bcast (.bcast hd))))) (.bcast (.bcast hd))) (.bcast (.bcast hb))

end

end Cert.Gnn

end
-- ==== Proof.Attention.lean ====
/- The attention layer, over any number of heads, as the kernel and as the reference write it, and the proof that the two
   are one function on real numbers. -/
module

public import proofs.«01_k».proof.Proof.Layers

@[expose] public section

noncomputable section

namespace Cert.Gnn

open Idealize.ShloMosaic

/-- The shape conditions of an attention layer with `H` heads. -/
structure Heads (H : Nat) : Prop where
  bN : S0.BroadcastsInDim (SNH H) (![] : Fin 0 → Fin (SNH H).rank)
  bE : S0.BroadcastsInDim (SEH H) (![] : Fin 0 → Fin (SEH H).rank)
  bN3 : S0.BroadcastsInDim (SNHC H) (![] : Fin 0 → Fin (SNHC H).rank)
  bN31 : S0.BroadcastsInDim ⟨3, ![10000, H, 1]⟩ (![] : Fin 0 → Fin 3)
  w1 : (⟨2, ![H, 64]⟩ : Shape).BroadcastsInDim ⟨3, ![1, H, 64]⟩ (![1, 2] : Fin 2 → Fin 3)
  w2 : (⟨3, ![1, H, 64]⟩ : Shape).BroadcastsInDim (SNHC H) (![0, 1, 2] : Fin 3 → Fin (SNHC H).rank)
  m1 : (⟨1, ![H]⟩ : Shape).BroadcastsInDim ⟨2, ![1, H]⟩ (![1] : Fin 1 → Fin 2)
  m2 : (⟨2, ![1, H]⟩ : Shape).BroadcastsInDim (SNH H) (![0, 1] : Fin 2 → Fin (SNH H).rank)
  n1 : (SNH H).BroadcastsInDim ⟨3, ![10000, H, 1]⟩ (![0, 1] : Fin 2 → Fin 3)
  n2 : (⟨3, ![10000, H, 1]⟩ : Shape).BroadcastsInDim (SNHC H) (![0, 1, 2] : Fin 3 → Fin (SNHC H).rank)
  e1 : (SEH H).BroadcastsInDim ⟨3, ![330000, H, 1]⟩ (![0, 1] : Fin 2 → Fin 3)
  e2 : (⟨3, ![330000, H, 1]⟩ : Shape).BroadcastsInDim (SEHC H) (![0, 1, 2] : Fin 3 → Fin (SEHC H).rank)
  rC : (SNHC H).ReducesTo [2] (SNH H)
  rN : (SNH H).ReducesTo [0] ⟨1, ![H]⟩
  g2 : GatherDims.WF (SNH H) SE1 (SEH H) [1] [0] [] [0] [] 1 ![1, H]
  g3 : GatherDims.WF (SNHC H) SE1 (SEHC H) [1, 2] [0] [] [0] [] 1 ![1, H, 64]
  s2 : ScatterDims.WF (SNH H) SE1 (SEH H) [1] [0] [0] 1
  s3 : ScatterDims.WF (SNHC H) SE1 (SEHC H) [1, 2] [0] [0] 1

variable {H : Nat} (f : Heads H)

/-- The read of one matrix of a stack per edge. -/
abbrev gd3 : GatherDims (SNHC H) SE1 (SEHC H) where
  offsetDims := [1, 2]
  collapsedSliceDims := [0]
  operandBatchingDims := []
  startIndicesBatchingDims := []
  startIndexMap := [0]
  indexVectorDim := 1
  sliceSizes := ![1, H, 64]
  wf := f.g3

abbrev gN : GatherDims (SNH H) SE1 (SEH H) := gd2 10000 330000 H f.g2
abbrev s2N : ScatterDims (SNH H) SE1 (SEH H) := sd2 10000 330000 H f.s2
abbrev s3N : ScatterDims (SNHC H) SE1 (SEHC H) := sd3 10000 330000 H 64 f.s3

/-- One number per node and head, along the channels. -/
abbrev chanN (x : Arr ⟨3, ![10000, H, 1]⟩) : Arr (SNHC H) := broadcastInDim (SNHC H) ![0, 1, 2] f.n2 x
/-- One number per edge and head, along the channels. -/
abbrev chanE (x : Arr (SEH H)) : Arr (SEHC H) :=
  broadcastInDim (SEHC H) ![0, 1, 2] f.e2 (broadcastInDim ⟨3, ![330000, H, 1]⟩ ![0, 1] f.e1 x)

/-- Every node's inner product with an attention vector, per head. -/
def al (xw : Arr (SNHC H)) (a : Arr ⟨2, ![H, 64]⟩) : Arr (SNH H) :=
  Host.reduceAdd (mulf xw (broadcastInDim (SNHC H) ![0, 1, 2] f.w2 (broadcastInDim ⟨3, ![1, H, 64]⟩ ![1, 2] f.w1 a))) c0 f.rC h0

def leakyN (x : Arr (SNH H)) : Arr (SNH H) :=
  select (cmpf .oge x (splat (SNH H) f.bN c0)) x (mulf (splat (SNH H) f.bN (id cSlope)) x)

def leakyE (x : Arr (SEH H)) : Arr (SEH H) :=
  select (cmpf .oge x (splat (SEH H) f.bE c0)) x (mulf (splat (SEH H) f.bE (id cSlope)) x)

/-- Every edge's logits. -/
def logit (src dst : IVec SE 32) (s d : Arr (SNH H)) : Arr (SEH H) :=
  leakyE f (addf (Host.gather (gN f) s (wrap src)) (Host.gather (gN f) d (wrap dst)))

/-- A bound on the logits into every node. -/
def bound (s d : Arr (SNH H)) : Arr (SNH H) :=
  leakyN f (addf d (broadcastInDim (SNH H) ![0, 1] f.m2 (broadcastInDim ⟨2, ![1, H]⟩ ![1] f.m1
    (Host.reduce FloatOps.maximumf s cBot f.rN h0))))

/-- Every edge's weights, the logits taken relative to `m` at the target. -/
def weight (dst : IVec SE 32) (e : Arr (SEH H)) (m : Arr (SNH H)) : Arr (SEH H) :=
  Host.exp (subf e (Host.gather (gN f) m (wrap dst)))

/-- The sum of the weights into every node. -/
def total (dst : IVec SE 32) (p : Arr (SEH H)) : Arr (SNH H) :=
  Host.scatterAdd (s2N f) (splat (SNH H) f.bN c0) (col dst) p

/-- The sum into every node of the sources' rows times a factor per edge. -/
def mix (src dst : IVec SE 32) (xw : Arr (SNHC H)) (p : Arr (SEH H)) : Arr (SNHC H) :=
  Host.scatterAdd (s3N f) (splat (SNHC H) f.bN3 c0) (col dst) (mulf (Host.gather (gd3 f) xw (wrap src)) (chanE f p))

/-- The kernel's attention layer: the weights relative to the bound, the mix divided by their guarded sum. -/
def gatK (src dst : IVec SE 32) (xw : Arr (SNHC H)) (s d : Arr ⟨2, ![H, 64]⟩) : Arr (SNHC H) :=
  Host.divf
    (mix f src dst xw (weight f dst (logit f src dst (al f xw s) (al f xw d)) (bound f (al f xw s) (al f xw d))))
    (chanN f (addf
      (broadcastInDim ⟨3, ![10000, H, 1]⟩ ![0, 1] f.n1
        (total f dst (weight f dst (logit f src dst (al f xw s) (al f xw d)) (bound f (al f xw s) (al f xw d)))))
      (splat ⟨3, ![10000, H, 1]⟩ f.bN31 cEps)))

/-- The reference's stabilizer: the largest logit where it is finite, zero elsewhere. -/
def finiteOr0 (x : Arr (SNH H)) : Arr (SNH H) :=
  select (cmpf .olt (Host.absf x) (splat (SNH H) f.bN cTop)) x (splat (SNH H) f.bN (id c0))

/-- The reference's attention layer, `x` the largest logit into every node: the mix by the normalized weights. -/
def gatR (src dst : IVec SE 32) (xw : Arr (SNHC H)) (s d : Arr ⟨2, ![H, 64]⟩) (x : Arr (SNH H)) : Arr (SNHC H) :=
  mix f src dst xw (Host.divf (weight f dst (logit f src dst (al f xw s) (al f xw d)) (finiteOr0 f x))
    (addf
      (Host.gather (gN f) (total f dst (weight f dst (logit f src dst (al f xw s) (al f xw d)) (finiteOr0 f x))) (wrap dst))
      (Host.gather (gN f)
        (mulf (splat (SNH H) f.bN cEps) (Host.exp (subf (bound f (al f xw s) (al f xw d)) (finiteOr0 f x)))) (wrap dst))))

/-- The node and head of an element. -/
def nodeHead (i : (SNHC H).Idx) : (SNH H).Idx := ix2 (i 0) (i 1)
/-- The edge and head of an element. -/
def edgeHead (j : (SEHC H).Idx) : (SEH H).Idx := ix2 (j 0) (j 1)

/-- The read of a number per node and head along the channels is the node's and head's. -/
theorem chanN_apply (x : Arr (SNH H)) (i : (SNHC H).Idx) :
    chanN f (broadcastInDim ⟨3, ![10000, H, 1]⟩ ![0, 1] f.n1 x) i = x (nodeHead i) := by
  refine congrArg x (funext fun a => ?_)
  match a with
  | ⟨0, _⟩ => rfl
  | ⟨1, _⟩ =>
    refine Fin.ext ?_
    by_cases h : H = 1
    · subst h
      have := (i 1).isLt
      change (i 1).val < 1 at this
      show 0 = (i 1).val
      omega
    · refine (congrArg Fin.val (dif_neg (show ¬ (SNH H).size 1 = 1 from h))).trans ?_
      exact congrArg Fin.val (dif_neg (show ¬ H = 1 from h))

/-- The read of a number per edge and head along the channels is the edge's and head's. -/
theorem chanE_apply (x : Arr (SEH H)) (j : (SEHC H).Idx) : chanE f x j = x (edgeHead j) := by
  refine congrArg x (funext fun a => ?_)
  match a with
  | ⟨0, _⟩ => rfl
  | ⟨1, _⟩ =>
    refine Fin.ext ?_
    by_cases h : H = 1
    · subst h
      have := (j 1).isLt
      change (j 1).val < 1 at this
      show 0 = (j 1).val
      omega
    · refine (congrArg Fin.val (dif_neg (show ¬ (SEH H).size 1 = 1 from h))).trans ?_
      exact congrArg Fin.val (dif_neg (show ¬ H = 1 from h))

theorem al_real {xw : Arr (SNHC H)} {a : Arr ⟨2, ![H, 64]⟩} (hx : AllReal xw) (ha : AllReal a) : AllReal (al f xw a) :=
  .reduceAdd (.mul hx (.bcast (.bcast ha))) .zero

theorem logit_real (src dst : IVec SE 32) {s d : Arr (SNH H)} (hs : AllReal s) (hd : AllReal d) : AllReal (logit f src dst s d) :=
  .select (.add (.gather hs) (.gather hd)) (.mul (.bcast (.const word_slope)) (.add (.gather hs) (.gather hd)))

theorem bound_real {s d : Arr (SNH H)} (hs : AllReal s) (hd : AllReal d) : AllReal (bound f s d) :=
  have h := AllReal.add hd (.bcast (.bcast (.columnMax (by decide) hs)))
  .select h (.mul (.bcast (.const word_slope)) h)

theorem finiteOr0_real (x : Arr (SNH H)) : AllReal (finiteOr0 f x) := .finiteOr (fun _ => word_top) (.bcast .zero)

/-- The two attention layers are one function on real numbers, whatever finite stabilizer the reference takes. -/
theorem gat_eq (src dst : IVec SE 32) (xw : Arr (SNHC H)) (s d : Arr ⟨2, ![H, 64]⟩) (x : Arr (SNH H)) (hxw : AllReal xw)
    (hs : AllReal s) (hd : AllReal d) : gatK f src dst xw s d = gatR f src dst xw s d x := by
  have hm := bound_real f (al_real f hxw hs) (al_real f hxw hd)
  have he := logit_real f src dst (al_real f hxw hs) (al_real f hxw hd)
  have hx := finiteOr0_real f x
  unfold gatK gatR
  generalize logit f src dst (al f xw s) (al f xw d) = e at he ⊢
  generalize bound f (al f xw s) (al f xw d) = m at hm ⊢
  generalize finiteOr0 f x = x' at hx ⊢
  obtain ⟨eps, heps, hepsw⟩ := word_eps
  funext i
  have hcE : ∀ (p : Arr (SEH H)) j, chanE f p j = p (edgeHead j) := chanE_apply f
  have hcN : ∀ (p : Arr (SNH H)), chanN f (addf (broadcastInDim ⟨3, ![10000, H, 1]⟩ ![0, 1] f.n1 p)
      (splat ⟨3, ![10000, H, 1]⟩ f.bN31 cEps)) i = (p (nodeHead i) + (eps : EReal) : EReal) := fun p => by
    rw [← hepsw]
    exact congrArg (fun z : EReal => z + Ideal.ofBits .f32 0x24E69595#32) (chanN_apply f p i)
  have hl2 : ∀ j ∈ (Finset.univ.filter fun k => (s2N f).resultIdx? k (col dst) = some (nodeHead i)),
      (gN f).operandIdx j (wrap dst) = nodeHead i := fun j hj =>
    lands_reads2 f.s2 f.g2 (col dst) (wrap dst) (wraps dst) j _ (Finset.mem_filter.1 hj).2
  have hl3 : ∀ j ∈ (Finset.univ.filter fun k => (s3N f).resultIdx? k (col dst) = some i),
      (gN f).operandIdx (edgeHead j) (wrap dst) = nodeHead i := fun j hj =>
    lands_reads3 f.s3 f.g2 (col dst) (wrap dst) (wraps dst) j i (Finset.mem_filter.1 hj).2
  have htot : ∀ (p : Arr (SEH H)) (n : (SNH H).Idx), total f dst p n = (0 + ∑ k ∈ Finset.univ.filter
      (fun k => (s2N f).resultIdx? k (col dst) = some n), p k : EReal) := fun p n =>
    congrArg (fun z : EReal => z + ∑ k ∈ Finset.univ.filter (fun k => (s2N f).resultIdx? k (col dst) = some n), (p k : EReal)) word_zero
  have hmix : ∀ (p : Arr (SEH H)), mix f src dst xw p i = (0 + ∑ j ∈ Finset.univ.filter
      (fun j => (s3N f).resultIdx? j (col dst) = some i), xw ((gd3 f).operandIdx j (wrap src)) * chanE f p j : EReal) := fun p =>
    congrArg (fun z : EReal => z + ∑ j ∈ Finset.univ.filter (fun j => (s3N f).resultIdx? j (col dst) = some i),
      (xw ((gd3 f).operandIdx j (wrap src)) * chanE f p j : EReal)) word_zero
  have key := gat_sum (Finset.univ.filter fun k => (s3N f).resultIdx? k (col dst) = some i)
    (Finset.univ.filter fun k => (s2N f).resultIdx? k (col dst) = some (nodeHead i))
    (fun j => edgeHead j) (fun j => xw ((gd3 f).operandIdx j (wrap src))) e
    (fun j => x' ((gN f).operandIdx j (wrap dst))) (fun j => m ((gN f).operandIdx j (wrap dst)))
    (fun j => total f dst (weight f dst e x') ((gN f).operandIdx (edgeHead j) (wrap dst)))
    (fun j => mulf (splat (SNH H) f.bN cEps) (Host.exp (subf m x')) ((gN f).operandIdx (edgeHead j) (wrap dst)))
    (x' (nodeHead i)) (m (nodeHead i)) eps heps (fun _ => hxw _) he (hx _) (hm _)
    (fun j hj => congrArg x' (hl2 j hj)) (fun j hj => congrArg m (hl2 j hj))
    (fun j hj => congrArg x' (hl3 j hj)) (fun j hj => congrArg m (hl3 j hj))
    (fun j hj => by
      rw [hl3 j hj, htot]
      rfl)
    (fun j hj => by
      rw [hl3 j hj, ← hepsw]
      rfl)
  have hdivN : ∀ a b : Arr (SNHC H), Host.divf a b i = (Ideal.div (a i) (b i) : EReal) := fun _ _ => rfl
  have hdivE : ∀ (a b : Arr (SEH H)) j, Host.divf a b j = (Ideal.div (a j) (b j) : EReal) := fun _ _ _ => rfl
  have haddE : ∀ (a b : Arr (SEH H)) j, addf a b j = (a j + b j : EReal) := fun _ _ _ => rfl
  have hgat : ∀ (a : Arr (SNH H)) j, Host.gather (gN f) a (wrap dst) j = a ((gN f).operandIdx j (wrap dst)) := fun _ _ => rfl
  have hwt : ∀ (a : Arr (SNH H)) j, weight f dst e a j = (Ideal.exp (e j - a ((gN f).operandIdx j (wrap dst))) : EReal) :=
    fun _ _ => rfl
  rw [hdivN, hcN, hmix, hmix, htot]
  simp only [hcE, hdivE, haddE, hgat]
  simp only [hwt]
  exact key

end Cert.Gnn

end
-- ==== Proof.AttentionReal.lean ====
/- The attention layer of real numbers is made of real numbers. -/
module

public import proofs.«01_k».proof.Proof.Attention

@[expose] public section

noncomputable section

namespace Cert.Gnn

open Idealize.ShloMosaic

/-- The exponential of a real number is a positive real number. -/
theorem IsReal.exp_pos {x : EReal} (hx : IsReal x) : ∃ r : ℝ, 0 < r ∧ Ideal.exp x = (r : EReal) := by
  obtain ⟨a, rfl⟩ := hx; exact ⟨Real.exp a, Real.exp_pos a, rfl⟩

/-- A finite sum of positive reals plus a positive real is a nonzero real. -/
theorem guarded_sum {ι : Type} (S : Finset ι) (p : ι → EReal) (hp : ∀ j, ∃ r : ℝ, 0 < r ∧ p j = (r : EReal)) (eps : ℝ)
    (heps : 0 < eps) : ∃ r : ℝ, r ≠ 0 ∧ (0 + ∑ j ∈ S, p j) + (eps : EReal) = (r : EReal) := by
  choose q hq0 hq using hp
  refine ⟨(∑ j ∈ S, q j) + eps, ?_, ?_⟩
  · have : 0 ≤ ∑ j ∈ S, q j := Finset.sum_nonneg fun j _ => (hq0 j).le
    intro h; linarith
  · rw [zero_add, Finset.sum_congr rfl fun j _ => hq j, coe_sum, EReal.coe_add]

variable {H : Nat} (f : Heads H)

/-- The attention layer of real numbers is made of real numbers: every divisor is a positive real. -/
theorem gat_real (src dst : IVec SE 32) {xw : Arr (SNHC H)} {s d : Arr ⟨2, ![H, 64]⟩} (hxw : AllReal xw) (hs : AllReal s)
    (hd : AllReal d) : AllReal (gatK f src dst xw s d) := by
  have hm := bound_real f (al_real f hxw hs) (al_real f hxw hd)
  have he := logit_real f src dst (al_real f hxw hs) (al_real f hxw hd)
  unfold gatK
  generalize logit f src dst (al f xw s) (al f xw d) = e at he ⊢
  generalize bound f (al f xw s) (al f xw d) = m at hm ⊢
  have hw : ∀ j, ∃ r : ℝ, 0 < r ∧ weight f dst e m j = (r : EReal) := fun j => IsReal.exp_pos (AllReal.sub he (.gather hm) j)
  have hwr : AllReal (weight f dst e m) := fun j => (hw j).imp fun _ h => h.2
  have hmix : AllReal (mix f src dst xw (weight f dst e m)) :=
    .scatterAdd (.bcast .zero) (.mul (.gather hxw) (.bcast (.bcast hwr)))
  generalize weight f dst e m = p at hw hmix ⊢
  generalize mix f src dst xw p = y at hmix ⊢
  obtain ⟨eps, heps, hepsw⟩ := word_eps
  intro i
  have hcN : chanN f (addf (broadcastInDim ⟨3, ![10000, H, 1]⟩ ![0, 1] f.n1 (total f dst p))
      (splat ⟨3, ![10000, H, 1]⟩ f.bN31 cEps)) i = (total f dst p (nodeHead i) + (eps : EReal) : EReal) := by
    rw [← hepsw]
    exact congrArg (fun z : EReal => z + Ideal.ofBits .f32 0x24E69595#32) (chanN_apply f (total f dst p) i)
  have htot : ∀ n : (SNH H).Idx, total f dst p n = (0 + ∑ k ∈ Finset.univ.filter
      (fun k => (s2N f).resultIdx? k (col dst) = some n), p k : EReal) := fun n =>
    congrArg (fun z : EReal => z + ∑ k ∈ Finset.univ.filter (fun k => (s2N f).resultIdx? k (col dst) = some n), (p k : EReal)) word_zero
  have hdiv : ∀ a b : Arr (SNHC H), Host.divf a b i = (Ideal.div (a i) (b i) : EReal) := fun _ _ => rfl
  rw [hdiv, hcN, htot]
  obtain ⟨r, hr0, hr⟩ := guarded_sum (Finset.univ.filter fun k => (s2N f).resultIdx? k (col dst) = some (nodeHead i)) p hw eps heps
  rw [hr]
  exact IsReal.div (hmix i) ⟨r, rfl⟩ fun h => hr0 (EReal.coe_eq_zero.1 h)

end Cert.Gnn

end
-- ==== Proof.Network.lean ====
/- The two networks as functions of arrays of extended reals — two graph convolutions, two attention layers of eight
   heads, one of one head, the mean over heads and the log-softmax —, and the proof that they are one function on real
   numbers. -/
module

public import proofs.«01_k».proof.Proof.AttentionReal

@[expose] public section

noncomputable section

namespace Cert.Gnn

open Idealize.ShloMosaic

/-- A matrix. -/
abbrev SM (M N : Nat) : Shape := ⟨2, ![M, N]⟩

/-- The product of two matrices. -/
abbrev mm {M K N : Nat} (x : Arr (SM M K)) (w : Arr (SM K N)) : Arr (SM M N) := Host.dotGeneral (DotDims.plain M K N) none x w

section
variable {s : Shape} (h : S0.BroadcastsInDim s (![] : Fin 0 → Fin s.rank))

/-- The exponential linear unit, as both programs write it. -/
def elu (x : Arr s) : Arr s :=
  select (cmpf .ogt x (splat s h c0)) x
    (mulf (splat s h c1) (Host.expm1 (select (cmpf .ogt x (splat s h c0)) (splat s h (id c0)) x)))

theorem elu_real {x : Arr s} (hx : AllReal x) : AllReal (elu h x) :=
  .select hx (.mul (.bcast .one) (.expm1 (.select (.bcast .zero) hx)))
end

/-! ### The edges -/

theorem sl0 : (SM 2 320000).Slices ![0, 0] (SM 1 320000) := by decide
theorem sl1 : (SM 2 320000).Slices ![1, 0] (SM 1 320000) := by decide
theorem sc1 : (SM 1 320000).ShapeCasts ⟨1, ![320000]⟩ := by decide
theorem cat : Shape.Concatenates [(⟨1, ![320000]⟩ : Shape), SN] SE 0 := by decide

/-- The edges' sources, followed by every node (its loop). -/
def srcOf (ei : IVec (SM 2 320000) 32) : IVec SE 32 :=
  concatenate SE 0 [⟨⟨1, ![320000]⟩, shapeCast ⟨1, ![320000]⟩ (extractStridedSlice (SM 1 320000) ![0, 0] ei sl0) sc1⟩, ⟨SN, iotaInDim SN 32 0⟩] cat
/-- The edges' targets, followed by every node (its loop). -/
def dstOf (ei : IVec (SM 2 320000) 32) : IVec SE 32 :=
  concatenate SE 0 [⟨⟨1, ![320000]⟩, shapeCast ⟨1, ![320000]⟩ (extractStridedSlice (SM 1 320000) ![1, 0] ei sl1) sc1⟩, ⟨SN, iotaInDim SN 32 0⟩] cat

/-! ### The shape conditions -/

theorem wd : ScatterDims.WF SN SE1 SE [] [0] [0] 1 := by decide
theorem wg1 : GatherDims.WF SN SE1 SE [] [0] [] [0] [] 1 ![1] := by decide
theorem wg2 : GatherDims.WF (SNH 64) SE1 (SEH 64) [1] [0] [] [0] [] 1 ![1, 64] := by decide
theorem ws2 : ScatterDims.WF (SNH 64) SE1 (SEH 64) [1] [0] [0] 1 := by decide

theorem heads8 : Heads 8 := by constructor <;> decide
theorem heads1 : Heads 1 := by constructor <;> decide

theorem bN512 : S0.BroadcastsInDim (SM 10000 512) (![] : Fin 0 → Fin (SM 10000 512).rank) := by decide
theorem b512a : (⟨1, ![512]⟩ : Shape).BroadcastsInDim (SM 1 512) (![1] : Fin 1 → Fin 2) := by decide
theorem b512b : (SM 1 512).BroadcastsInDim (SM 10000 512) (![0, 1] : Fin 2 → Fin 2) := by decide
theorem split8 : (SM 10000 512).ShapeCasts (SNHC 8) := by decide
theorem join8 : (SNHC 8).ShapeCasts (SM 10000 512) := by decide
theorem split1 : (SM 10000 64).ShapeCasts (SNHC 1) := by decide
theorem meanH : (SNHC 1).ReducesTo [1] (SNH 64) := by decide
theorem rowR : (SNH 64).ReducesTo [1] SN := by decide

/-- A bias of 512 channels, added to every row. -/
abbrev bias512 (b : Arr ⟨1, ![512]⟩) : Arr (SM 10000 512) :=
  broadcastInDim (SM 10000 512) ![0, 1] b512b (broadcastInDim (SM 1 512) ![1] b512a b)

/-- The kernel's attention layer from the logits `e` and the bound `m`: the mix divided by the guarded sum of the weights. -/
def gatFrom {H : Nat} (f : Heads H) (src dst : IVec SE 32) (xw : Arr (SNHC H)) (e : Arr (SEH H)) (m : Arr (SNH H)) : Arr (SNHC H) :=
  Host.divf (mix f src dst xw (weight f dst e m))
    (chanN f (addf (broadcastInDim ⟨3, ![10000, H, 1]⟩ ![0, 1] f.n1 (total f dst (weight f dst e m)))
      (splat ⟨3, ![10000, H, 1]⟩ f.bN31 cEps)))

theorem gatFrom_eq {H : Nat} (f : Heads H) (src dst : IVec SE 32) (xw : Arr (SNHC H)) (s d : Arr ⟨2, ![H, 64]⟩) :
    gatFrom f src dst xw (logit f src dst (al f xw s) (al f xw d)) (bound f (al f xw s) (al f xw d)) = gatK f src dst xw s d := rfl

/-! ### The head of the network, the same text in both -/

/-- Each row less its largest element. -/
def shift (y : Arr (SNH 64)) : Arr (SNH 64) :=
  subf y (rowsN (maximumf (splat SN bN cBot) (Host.reduce FloatOps.maximumf y cBot rowR h0)))

/-- The log-softmax along the rows. -/
def lsm (y : Arr (SNH 64)) : Arr (SNH 64) :=
  subf (shift y) (broadcastInDim (SNH 64) ![0, 1] bNN
    (Host.log (broadcastInDim SN1 ![0] bN1 (Host.reduceAdd (Host.exp (shift y)) c0 rowR h0))))

/-- The mean over the one head, plus the bias. -/
def meanBias (y : Arr (SNHC 1)) (b : Arr ⟨1, ![64]⟩) : Arr (SNH 64) :=
  addf (Host.divf (Host.reduceAdd y c0 meanH h0) (splat (SNH 64) bN64 c1)) (bias64 b)

/-! ### The layers of the two networks -/

section
variable (src dst : IVec SE 32)

/-- The normalizing factors. -/
def norm : Arr SN := dinv (deg wd dst)

theorem norm_real : AllReal (norm dst) := dinv_real (deg_real wd dst)

section
variable {K : Nat} (x : Arr (SM 10000 K)) (w : Arr (SM K 64)) (b : Arr ⟨1, ![64]⟩)
/-- The kernel's convolution layer. -/
def convK : Arr (SNH 64) := elu bN64 (gcnK wg2 ws2 src dst (norm dst) (mm x w) b)
/-- The reference's convolution layer. -/
def convR : Arr (SNH 64) := elu bN64 (gcnR wg1 wg2 ws2 src dst (norm dst) (mm x w) b)

variable {x w b}
theorem conv_eq (hx : AllReal x) (hw : AllReal w) : convK src dst x w b = convR src dst x w b :=
  congrArg (elu bN64) (gcn_eq wg1 wg2 ws2 src dst _ _ _ (norm_real dst) (.dot hx hw))
theorem conv_real (hx : AllReal x) (hw : AllReal w) (hb : AllReal b) : AllReal (convK src dst x w b) :=
  elu_real bN64 (gcn_real wg2 ws2 src dst (norm_real dst) (.dot hx hw) hb)
end

section
variable {K : Nat} (x : Arr (SM 10000 K)) (w : Arr (SM K 512)) (s d : Arr (SM 8 64)) (b : Arr ⟨1, ![512]⟩)
/-- The kernel's attention layer of eight heads. -/
def attK : Arr (SM 10000 512) :=
  elu bN512 (addf (shapeCast (SM 10000 512) (gatK heads8 src dst (shapeCast (SNHC 8) (mm x w) split8) s d) join8) (bias512 b))
/-- The reference's, `e` the largest logit into every node. -/
def attR (e : Arr (SNH 8)) : Arr (SM 10000 512) :=
  elu bN512 (addf (shapeCast (SM 10000 512) (gatR heads8 src dst (shapeCast (SNHC 8) (mm x w) split8) s d e) join8) (bias512 b))

variable {x w s d b}
theorem att_eq (e : Arr (SNH 8)) (hx : AllReal x) (hw : AllReal w) (hs : AllReal s) (hd : AllReal d) :
    attK src dst x w s d b = attR src dst x w s d b e :=
  congrArg (fun z => elu bN512 (addf (shapeCast (SM 10000 512) z join8) (bias512 b)))
    (gat_eq heads8 src dst _ s d e (.shapeCast (.dot hx hw)) hs hd)
theorem att_real (hx : AllReal x) (hw : AllReal w) (hs : AllReal s) (hd : AllReal d) (hb : AllReal b) :
    AllReal (attK src dst x w s d b) :=
  elu_real bN512 (.add (.shapeCast (gat_real heads8 src dst (.shapeCast (.dot hx hw)) hs hd)) (.bcast (.bcast hb)))
end

section
variable (x : Arr (SM 10000 512)) (w : Arr (SM 512 64)) (s d : Arr (SM 1 64)) (b : Arr ⟨1, ![64]⟩)
/-- The kernel's last layer. -/
def outK : Arr (SNH 64) := lsm (meanBias (gatK heads1 src dst (shapeCast (SNHC 1) (mm x w) split1) s d) b)
/-- The reference's, `e` the largest logit into every node. -/
def outR (e : Arr (SNH 1)) : Arr (SNH 64) := lsm (meanBias (gatR heads1 src dst (shapeCast (SNHC 1) (mm x w) split1) s d e) b)

variable {x w s d b}
theorem out_eq (e : Arr (SNH 1)) (hx : AllReal x) (hw : AllReal w) (hs : AllReal s) (hd : AllReal d) :
    outK src dst x w s d b = outR src dst x w s d b e :=
  congrArg (fun z => lsm (meanBias z b)) (gat_eq heads1 src dst _ s d e (.shapeCast (.dot hx hw)) hs hd)
end
end

/-- The floating arguments. -/
structure Weights where
  x : Arr (SM 10000 128)
  w1 : Arr (SM 128 64)
  b1 : Arr ⟨1, ![64]⟩
  w2 : Arr (SM 64 64)
  b2 : Arr ⟨1, ![64]⟩
  wg1 : Arr (SM 64 512)
  s1 : Arr (SM 8 64)
  d1 : Arr (SM 8 64)
  bg1 : Arr ⟨1, ![512]⟩
  wg2 : Arr (SM 512 512)
  s2 : Arr (SM 8 64)
  d2 : Arr (SM 8 64)
  bg2 : Arr ⟨1, ![512]⟩
  wg3 : Arr (SM 512 64)
  s3 : Arr (SM 1 64)
  d3 : Arr (SM 1 64)
  bg3 : Arr ⟨1, ![64]⟩

/-- Every argument but the last bias is made of real numbers. -/
structure Weights.Real (a : Weights) : Prop where
  x : AllReal a.x
  w1 : AllReal a.w1
  b1 : AllReal a.b1
  w2 : AllReal a.w2
  b2 : AllReal a.b2
  wg1 : AllReal a.wg1
  s1 : AllReal a.s1
  d1 : AllReal a.d1
  bg1 : AllReal a.bg1
  wg2 : AllReal a.wg2
  s2 : AllReal a.s2
  d2 : AllReal a.d2
  bg2 : AllReal a.bg2
  wg3 : AllReal a.wg3
  s3 : AllReal a.s3
  d3 : AllReal a.d3

/-- The kernel's network. -/
def netK (src dst : IVec SE 32) (a : Weights) : Arr (SNH 64) :=
  outK src dst (attK src dst (attK src dst (convK src dst (convK src dst a.x a.w1 a.b1) a.w2 a.b2)
    a.wg1 a.s1 a.d1 a.bg1) a.wg2 a.s2 a.d2 a.bg2) a.wg3 a.s3 a.d3 a.bg3

/-- The reference's network, `e1`, `e2`, `e3` the largest logits of its three attention layers. -/
def netR (src dst : IVec SE 32) (a : Weights) (e1 e2 : Arr (SNH 8)) (e3 : Arr (SNH 1)) : Arr (SNH 64) :=
  outR src dst (attR src dst (attR src dst (convR src dst (convR src dst a.x a.w1 a.b1) a.w2 a.b2)
    a.wg1 a.s1 a.d1 a.bg1 e1) a.wg2 a.s2 a.d2 a.bg2 e2) a.wg3 a.s3 a.d3 a.bg3 e3

/-- The two networks are one function on real numbers. -/
theorem net_eq (src dst : IVec SE 32) {a : Weights} (h : a.Real) (e1 e2 : Arr (SNH 8)) (e3 : Arr (SNH 1)) :
    netK src dst a = netR src dst a e1 e2 e3 := by
  have r1 := conv_real src dst h.x h.w1 h.b1
  have r2 := conv_real src dst r1 h.w2 h.b2
  have r3 := att_real src dst r2 h.wg1 h.s1 h.d1 h.bg1
  have r4 := att_real src dst r3 h.wg2 h.s2 h.d2 h.bg2
  unfold netK netR
  rw [← conv_eq src dst h.x h.w1, ← conv_eq src dst r1 h.w2, ← att_eq src dst e1 r2 h.wg1 h.s1 h.d1,
    ← att_eq src dst e2 r3 h.wg2 h.s2 h.d2]
  exact out_eq src dst e3 r4 h.wg3 h.s3 h.d3

end Cert.Gnn

end
-- ==== Proof.Pre.lean ====
/- The precondition — every float argument but the last bias is finite — gives real numbers. -/
module

public import proofs.«01_k».proof.Proof.Network
public import proofs.«01_k».proof.Pre_finite
public import Idealize.ShloMosaic.Lib.ReduceAll

@[expose] public section

set_option maxRecDepth 16384

noncomputable section

namespace Cert.Gnn

open Idealize.ShloMosaic

/-- The shape conditions of the precondition. -/
theorem preFacts : Cert.Pre_finite.Facts := by constructor <;> decide

/-- Two bits whose conjunction is set are set. -/
theorem and_one : ∀ a b : BitVec 1, IntOp.andi a b = 1#1 → a = 1#1 ∧ b = 1#1 := by decide

/-- An array all of whose elements are less than infinity in absolute value is made of real numbers. -/
theorem real_of_all {s : Shape} {axes : List (Fin s.rank)} (x : Arr s) (hb : S0.BroadcastsInDim s (![] : Fin 0 → Fin s.rank))
    (hr : s.ReducesTo axes S0) (j : S0.Idx)
    (h : Host.reduce IntOp.andi (cmpf .olt (Host.absf x) (splat s hb cTop)) (constantI S0 1 1#1) hr h0 j = 1#1) : AllReal x := by
  intro i
  haveI : Subsingleton S0.Idx := ⟨fun a b => funext fun k => k.elim0⟩
  have hi := Host.reduce_andi_all _ _ hr h0 j h i
  have h2 : BitVec.ofBool (decide (max (x i : EReal) (-(x i : EReal)) < Ideal.ofBits .f32 0x7F800000#32)) = 1#1 := hi
  have hlt : max (x i : EReal) (-(x i : EReal)) < ⊤ := by
    by_contra hn
    rw [word_top, decide_eq_false hn] at h2
    exact absurd h2 (by decide)
  have h3 : (x i : EReal) ≠ ⊤ := fun e => by rw [e] at hlt; simp at hlt
  have h4 : (x i : EReal) ≠ ⊥ := fun e => by rw [e] at hlt; simp at hlt
  exact ⟨_, (EReal.coe_toReal h3 h4).symm⟩

/-- Where the precondition holds, every argument but the last bias is made of real numbers. -/
theorem weights_real (a : Weights) (e : IVec (SM 2 320000) 32)
    (h : @Cert.Pre_finite.fn preFacts Ideal _ a.x e a.w1 a.b1 a.w2 a.b2 a.wg1 a.s1 a.d1 a.bg1 a.wg2 a.s2 a.d2 a.bg2 a.wg3 a.s3
      a.d3 a.bg3 = (fun _ => 1#1)) : a.Real := by
  have k15 := congrFun h (fun k => k.elim0)
  unfold Cert.Pre_finite.fn Cert.Pre_finite.fn_part1 Cert.Pre_finite.fn_part2 Cert.Pre_finite.fn_part3 Cert.Pre_finite.fn_part4 at k15
  obtain ⟨k14, q15⟩ := and_one _ _ k15
  obtain ⟨k13, q14⟩ := and_one _ _ k14
  obtain ⟨k12, q13⟩ := and_one _ _ k13
  obtain ⟨k11, q12⟩ := and_one _ _ k12
  obtain ⟨k10, q11⟩ := and_one _ _ k11
  obtain ⟨k9, q10⟩ := and_one _ _ k10
  obtain ⟨k8, q9⟩ := and_one _ _ k9
  obtain ⟨k7, q8⟩ := and_one _ _ k8
  obtain ⟨k6, q7⟩ := and_one _ _ k7
  obtain ⟨k5, q6⟩ := and_one _ _ k6
  obtain ⟨k4, q5⟩ := and_one _ _ k5
  obtain ⟨k3, q4⟩ := and_one _ _ k4
  obtain ⟨k2, q3⟩ := and_one _ _ k3
  obtain ⟨k1, q2⟩ := and_one _ _ k2
  obtain ⟨k0, q1⟩ := and_one _ _ k1
  exact ⟨real_of_all _ _ _ _ k0, real_of_all _ _ _ _ q1, real_of_all _ _ _ _ q2, real_of_all _ _ _ _ q3, real_of_all _ _ _ _ q4, real_of_all _ _ _ _ q5, real_of_all _ _ _ _ q6, real_of_all _ _ _ _ q7, real_of_all _ _ _ _ q8, real_of_all _ _ _ _ q9, real_of_all _ _ _ _ q10, real_of_all _ _ _ _ q11, real_of_all _ _ _ _ q12, real_of_all _ _ _ _ q13, real_of_all _ _ _ _ q14, real_of_all _ _ _ _ q15⟩

end Cert.Gnn

end
-- ==== Proof.KernelRun.lean ====
/- The whole run of the kernel's program: it terminates, its result buffer ends with the last contents of the chain, the
   arguments end unchanged and every counter at zero. -/
module

public import proofs.«01_k».proof.Proof.Gen.KernelIdeal.Frame
public import Idealize.ShloMosaic.PureOps.Ideal

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch lemma's implicit arguments are found through the conclusion's types
set_option backward.isDefEq.respectTransparency.types false in
/-- Every weakly fair execution from zero counters terminates with the result buffer at the chain's last contents, the
    arguments as launched and every counter at zero. -/
theorem run : θ_run defs (onTc (τ := τ) (main (F := Ideal))) ⟨m, fun _ => 0, ρ⟩ (fun r => (∀ c : Dev nD,
      r.2.mem ((c.tc : Thread nD τ).loc main_v266) = W36 m ρ c (Proc.devRef .tc main_v266)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W36 m ρ c b)
    (hfin := fun c s' => by
      iintro ⟨⟨Hh, -⟩, HSI⟩
      unfold StableHlo.held
      imodintro
      iapply (pointsTo_read_all (Pipeline.ucRefs τ sig) (fun b => (((c : Thread nD τ)).1, b)) (W36 m ρ c) s')
      isplitl [Hh] <;> iassumption)
    (hQ := fun s h hz => ⟨(fun c =>
      ⟨h c _ (mem_uc main_v266 (by decide)),
       (h c _ (mem_uc main_arg0 (by decide))).trans (W36_main_arg0 m ρ c),
       (h c _ (mem_uc main_arg1 (by decide))).trans (W36_main_arg1 m ρ c),
       (h c _ (mem_uc main_arg2 (by decide))).trans (W36_main_arg2 m ρ c),
       (h c _ (mem_uc main_arg3 (by decide))).trans (W36_main_arg3 m ρ c),
       (h c _ (mem_uc main_arg4 (by decide))).trans (W36_main_arg4 m ρ c),
       (h c _ (mem_uc main_arg5 (by decide))).trans (W36_main_arg5 m ρ c),
       (h c _ (mem_uc main_arg6 (by decide))).trans (W36_main_arg6 m ρ c),
       (h c _ (mem_uc main_arg7 (by decide))).trans (W36_main_arg7 m ρ c),
       (h c _ (mem_uc main_arg8 (by decide))).trans (W36_main_arg8 m ρ c),
       (h c _ (mem_uc main_arg9 (by decide))).trans (W36_main_arg9 m ρ c),
       (h c _ (mem_uc main_arg10 (by decide))).trans (W36_main_arg10 m ρ c),
       (h c _ (mem_uc main_arg11 (by decide))).trans (W36_main_arg11 m ρ c),
       (h c _ (mem_uc main_arg12 (by decide))).trans (W36_main_arg12 m ρ c),
       (h c _ (mem_uc main_arg13 (by decide))).trans (W36_main_arg13 m ρ c),
       (h c _ (mem_uc main_arg14 (by decide))).trans (W36_main_arg14 m ρ c),
       (h c _ (mem_uc main_arg15 (by decide))).trans (W36_main_arg15 m ρ c),
       (h c _ (mem_uc main_arg16 (by decide))).trans (W36_main_arg16 m ρ c),
       (h c _ (mem_uc main_arg17 (by decide))).trans (W36_main_arg17 m ρ c)⟩), funext fun g => hz g (.inr (no_unscoped g.2))⟩)

end Cert.KernelIdeal.Whole

end
-- ==== Proof.Blocks.lean ====
/- A block of rows of a matrix product, as a kernel's body computes it, is that block of the whole product. -/
module

public import proofs.«01_k».proof.Proof.Network
public import Idealize.ShloMosaic.Lib.MatmulPlain
public import Idealize.ShloMosaic.Lib.StackMember

@[expose] public section

noncomputable section

namespace Cert.Gnn

open Idealize.ShloMosaic

/-- An element of a product of a block of rows, plus a zero, is the element of the whole product the block puts it at. -/
theorem block_mm {B M K N : Nat} (X : Arr (SM M K)) (W : Arr (SM K N)) (a : Arr (SM B K)) (w : Arr (SM K N)) (z : Arr (SM B N))
    (y : (SM B N).Idx) (i : (SM M N).Idx) (p : Fin B) (r : Fin M) (q : Fin N) (hy : y = ValueIdx.ix2 p q) (hi : i = ValueIdx.ix2 r q)
    (ha : ∀ k : Fin K, a (ValueIdx.ix2 p k) = X (ValueIdx.ix2 r k)) (hw : ∀ k : Fin K, w (ValueIdx.ix2 k q) = W (ValueIdx.ix2 k q)) (hz : z y = (0 : EReal)) :
    addf (matmul (DotDims.plain B K N) none a w (constant (F := Ideal) (SM B N) .f32 0x00000000#32)) z y = mm X W i := by
  have h1 : addf (matmul (DotDims.plain B K N) none a w (constant (F := Ideal) (SM B N) .f32 0x00000000#32)) z y
      = ((matmul (DotDims.plain B K N) none a w (constant (F := Ideal) (SM B N) .f32 0x00000000#32)) y + z y : EReal) := rfl
  rw [h1, hz, add_zero, hy, hi]
  refine (Ideal.matmul_plain_apply none a w _ p q).trans ?_
  refine Eq.trans ?_ (StackMember.dotGeneral_plain_apply none X W r q).symm
  refine (congrArg (fun t : EReal => t + _) word_zero).trans ?_
  rw [zero_add]
  exact Finset.sum_congr rfl fun k _ => by rw [ha, hw]

end Cert.Gnn

end
-- ==== Proof.Regions.lean ====
/- The five arrays the kernel's calls leave: each is the whole matrix product. -/
module

public import proofs.«01_k».proof.Proof.Blocks
public import proofs.«01_k».proof.Proof.Gen.KernelIdeal.Frame
public import Idealize.ShloMosaic.Lib.Pipeline.ValueKit

@[expose] public section

set_option maxRecDepth 16384

noncomputable section

namespace Cert.KernelIdeal.Regions

open Idealize.ShloMosaic Idealize.ShloMosaic.TcCoe
open Cert.KernelIdeal.Gen Cert.Gnn

variable (V : (c : Dev nD) → (b : Ref sig .tc) → Buf (Elt Ideal) ((c : Thread nD τ).loc b))

/-- The block indices of call 0's windows. -/
theorem index0 : ∀ t : Fin cfg0.N, win0_0.index t = ![t.val, 0] ∧ win0_1.index t = ![0, 0] ∧ win0_3.index t = ![t.val, 0] :=
  (by decide +kernel : ∀ t : Fin grid0.N, _)

/-- Call 0 leaves the product of its first two operands when its third is zero. -/
theorem final0 (c : Dev nD) (hz : ∀ j : S64.Idx, (V c main_v20 : Arr S64) j = (0 : EReal)) :
    (dat0 V c).arrAt 3 cfg0.N = mm (V c main_arg0 : Arr (SM 10000 128)) (V c main_arg2 : Arr (SM 128 64)) := by
  refine (dat0 V c).arrAt_eq_of_covers 3 _ (by decide +kernel) fun t hf y => ?_
  obtain ⟨e0, e1, e3⟩ := index0 t
  blk_simp
  rw [after0_3]
  frame_out
  have ht : t.val < 5 := lt_of_lt_of_eq t.isLt N_0
  have h0 : (y 0).val < 2000 := (y 0).isLt
  have h1 : (y 1).val < 64 := (y 1).isLt
  refine block_mm (B := 2000) (M := 10000) (K := 128) (N := 64) (V c main_arg0) (V c main_arg2) (iblk0 V c 0 t) (iblk0 V c 1 t) _ y _
    ⟨(y 0).val, h0⟩ ⟨t.val * 2000 + (y 0).val, by omega⟩ ⟨(y 1).val, h1⟩ ?_ ?_ ?_ ?_ ?_
  · exact ValueIdx.eq_ix2 (n0 := 2000) (n1 := 64) y
  · blk_ext [e3]
  · intro k
    blk_simp [iblk0]
    refine congrArg (V c main_arg0) ?_
    blk_ext [e0]
  · intro k
    blk_simp [iblk0]
    refine congrArg (V c main_arg2) ?_
    blk_ext [e1]
  · exact hz _

/-- The block indices of call 1's windows. -/
theorem index1 : ∀ t : Fin cfg1.N, win1_0.index t = ![t.val, 0] ∧ win1_1.index t = ![0, 0] ∧ win1_3.index t = ![t.val, 0] :=
  (by decide +kernel : ∀ t : Fin grid1.N, _)

/-- Call 1 leaves the product of its first two operands when its third is zero. -/
theorem final1 (c : Dev nD) (hz : ∀ j : S64.Idx, (V c main_v42 : Arr S64) j = (0 : EReal)) :
    (dat1 V c).arrAt 3 cfg1.N = mm (V c main_v41 : Arr (SM 10000 64)) (V c main_arg4 : Arr (SM 64 64)) := by
  refine (dat1 V c).arrAt_eq_of_covers 3 _ (by decide +kernel) fun t hf y => ?_
  obtain ⟨e0, e1, e3⟩ := index1 t
  blk_simp
  rw [after1_3]
  frame_out
  have ht : t.val < 5 := lt_of_lt_of_eq t.isLt N_1
  have h0 : (y 0).val < 2000 := (y 0).isLt
  have h1 : (y 1).val < 64 := (y 1).isLt
  refine block_mm (B := 2000) (M := 10000) (K := 64) (N := 64) (V c main_v41) (V c main_arg4)
    (shapeCast (SM 2000 64) (iblk1 V c 0 t : Arr (SM 2000 64)) rfl) (iblk1 V c 1 t) _ y _
    ⟨(y 0).val, h0⟩ ⟨t.val * 2000 + (y 0).val, by omega⟩ ⟨(y 1).val, h1⟩ ?_ ?_ ?_ ?_ ?_
  · exact ValueIdx.eq_ix2 (n0 := 2000) (n1 := 64) y
  · blk_ext [e3]
  · intro k
    refine (congrFun (shapeCast_self _ _) _).trans ?_
    blk_simp [iblk1]
    refine congrArg (V c main_v41) ?_
    blk_ext [e0]
  · intro k
    blk_simp [iblk1]
    refine congrArg (V c main_arg4) ?_
    blk_ext [e1]
  · exact hz _

/-- The block indices of call 2's windows. -/
theorem index2 : ∀ t : Fin cfg2.N, win2_0.index t = ![t.val, 0] ∧ win2_1.index t = ![0, 0] ∧ win2_3.index t = ![t.val, 0] :=
  (by decide +kernel : ∀ t : Fin grid2.N, _)

/-- Call 2 leaves the product of its first two operands when its third is zero. -/
theorem final2 (c : Dev nD) (hz : ∀ j : S512.Idx, (V c main_v64 : Arr S512) j = (0 : EReal)) :
    (dat2 V c).arrAt 3 cfg2.N = mm (V c main_v63 : Arr (SM 10000 64)) (V c main_arg6 : Arr (SM 64 512)) := by
  refine (dat2 V c).arrAt_eq_of_covers 3 _ (by decide +kernel) fun t hf y => ?_
  obtain ⟨e0, e1, e3⟩ := index2 t
  blk_simp
  rw [after2_3]
  frame_out
  have ht : t.val < 5 := lt_of_lt_of_eq t.isLt N_2
  have h0 : (y 0).val < 2000 := (y 0).isLt
  have h1 : (y 1).val < 512 := (y 1).isLt
  refine block_mm (B := 2000) (M := 10000) (K := 64) (N := 512) (V c main_v63) (V c main_arg6)
    (shapeCast (SM 2000 64) (iblk2 V c 0 t : Arr (SM 2000 64)) rfl) (iblk2 V c 1 t) _ y _
    ⟨(y 0).val, h0⟩ ⟨t.val * 2000 + (y 0).val, by omega⟩ ⟨(y 1).val, h1⟩ ?_ ?_ ?_ ?_ ?_
  · exact ValueIdx.eq_ix2 (n0 := 2000) (n1 := 512) y
  · blk_ext [e3]
  · intro k
    refine (congrFun (shapeCast_self _ _) _).trans ?_
    blk_simp [iblk2]
    refine congrArg (V c main_v63) ?_
    blk_ext [e0]
  · intro k
    blk_simp [iblk2]
    refine congrArg (V c main_arg6) ?_
    blk_ext [e1]
  · exact hz _

/-- The block indices of call 3's windows. -/
theorem index3 : ∀ t : Fin cfg3.N, win3_0.index t = ![t.val, 0] ∧ win3_1.index t = ![0, 0] ∧ win3_3.index t = ![t.val, 0] :=
  (by decide +kernel : ∀ t : Fin grid3.N, _)

-- the operands of this call are its largest arrays
set_option maxHeartbeats 2000000 in
/-- Call 3 leaves the product of its first two operands when its third is zero. -/
theorem final3 (c : Dev nD) (hz : ∀ j : S512.Idx, (V c main_v131 : Arr S512) j = (0 : EReal)) :
    (dat3 V c).arrAt 3 cfg3.N = mm (V c main_v130 : Arr (SM 10000 512)) (V c main_arg10 : Arr (SM 512 512)) := by
  refine (dat3 V c).arrAt_eq_of_covers 3 _ (by decide +kernel) fun t hf y => ?_
  obtain ⟨e0, e1, e3⟩ := index3 t
  blk_simp
  rw [after3_3]
  frame_out
  have ht : t.val < 5 := lt_of_lt_of_eq t.isLt N_3
  have h0 : (y 0).val < 2000 := (y 0).isLt
  have h1 : (y 1).val < 512 := (y 1).isLt
  refine block_mm (B := 2000) (M := 10000) (K := 512) (N := 512) (V c main_v130) (V c main_arg10)
    (shapeCast (SM 2000 512) (iblk3 V c 0 t : Arr (SM 2000 512)) rfl) (iblk3 V c 1 t) _ y _
    ⟨(y 0).val, h0⟩ ⟨t.val * 2000 + (y 0).val, by omega⟩ ⟨(y 1).val, h1⟩ ?_ ?_ ?_ ?_ ?_
  · exact ValueIdx.eq_ix2 (n0 := 2000) (n1 := 512) y
  · blk_ext [e3]
  · intro k
    refine (congrFun (shapeCast_self _ _) _).trans ?_
    blk_simp [iblk3]
    refine congrArg (V c main_v130) ?_
    blk_ext [e0]
  · intro k
    blk_simp [iblk3]
    refine congrArg (V c main_arg10) ?_
    blk_ext [e1]
  · exact hz _

/-- The block indices of call 4's windows. -/
theorem index4 : ∀ t : Fin cfg4.N, win4_0.index t = ![t.val, 0] ∧ win4_1.index t = ![0, 0] ∧ win4_3.index t = ![t.val, 0] :=
  (by decide +kernel : ∀ t : Fin grid4.N, _)

/-- Call 4 leaves the product of its first two operands when its third is zero. -/
theorem final4 (c : Dev nD) (hz : ∀ j : S64.Idx, (V c main_v198 : Arr S64) j = (0 : EReal)) :
    (dat4 V c).arrAt 3 cfg4.N = mm (V c main_v197 : Arr (SM 10000 512)) (V c main_arg14 : Arr (SM 512 64)) := by
  refine (dat4 V c).arrAt_eq_of_covers 3 _ (by decide +kernel) fun t hf y => ?_
  obtain ⟨e0, e1, e3⟩ := index4 t
  blk_simp
  rw [after4_3]
  frame_out
  have ht : t.val < 5 := lt_of_lt_of_eq t.isLt N_4
  have h0 : (y 0).val < 2000 := (y 0).isLt
  have h1 : (y 1).val < 64 := (y 1).isLt
  refine block_mm (B := 2000) (M := 10000) (K := 512) (N := 64) (V c main_v197) (V c main_arg14)
    (shapeCast (SM 2000 512) (iblk4 V c 0 t : Arr (SM 2000 512)) rfl) (iblk4 V c 1 t) _ y _
    ⟨(y 0).val, h0⟩ ⟨t.val * 2000 + (y 0).val, by omega⟩ ⟨(y 1).val, h1⟩ ?_ ?_ ?_ ?_ ?_
  · exact ValueIdx.eq_ix2 (n0 := 2000) (n1 := 64) y
  · blk_ext [e3]
  · intro k
    refine (congrFun (shapeCast_self _ _) _).trans ?_
    blk_simp [iblk4]
    refine congrArg (V c main_v197) ?_
    blk_ext [e0]
  · intro k
    blk_simp [iblk4]
    refine congrArg (V c main_arg14) ?_
    blk_ext [e1]
  · exact hz _

end Cert.KernelIdeal.Regions

end
-- ==== Proof.StretchA.lean ====
/- What the kernel's host computes between its calls, one stretch at a time, from the arrays the stretch finds: the edges,
   the normalizing factors and the graph convolutions. -/
module

public import proofs.«01_k».proof.Proof.Network
public import proofs.«01_k».proof.Proof.Gen.KernelIdeal.Launch

@[expose] public section

set_option maxRecDepth 16384

noncomputable section

namespace Cert.KernelIdeal.Stretch

open Idealize.ShloMosaic Idealize.ShloMosaic.TcCoe
open Cert.KernelIdeal.Gen Cert.Gnn

variable (U : Valuation τ sig (Elt Ideal))

/-- The edges' sources. -/
theorem src_eq :
    (StableHlo.after hostOps0 U (Proc.devRef .tc main_v3) : IVec SE 32)
      = srcOf (U (Proc.devRef .tc main_arg1)) := by
  simp only [hostOps0, StableHlo.TRef.binary, StableHlo.TRef.nullary, StableHlo.TRef.unary, StableHlo.TRef.ternary, StableHlo.TRef.toBuf,
    StableHlo.TRef.ofBuf, cast_eq]
  after_results_simp
  all_goals rfl

/-- The edges' targets. -/
theorem dst_eq :
    (StableHlo.after hostOps0 U (Proc.devRef .tc main_v6) : IVec SE 32)
      = dstOf (U (Proc.devRef .tc main_arg1)) := by
  simp only [hostOps0, StableHlo.TRef.binary, StableHlo.TRef.nullary, StableHlo.TRef.unary, StableHlo.TRef.ternary, StableHlo.TRef.toBuf,
    StableHlo.TRef.ofBuf, cast_eq]
  after_results_simp
  all_goals rfl

/-- The degrees. -/
theorem deg_eq :
    (StableHlo.after hostOps0 U (Proc.devRef .tc main_v10) : Arr SN)
      = deg wd (dstOf (U (Proc.devRef .tc main_arg1))) := by
  simp only [hostOps0, StableHlo.TRef.binary, StableHlo.TRef.nullary, StableHlo.TRef.unary, StableHlo.TRef.ternary, StableHlo.TRef.toBuf,
    StableHlo.TRef.ofBuf, cast_eq]
  after_results_simp
  all_goals rfl

/-- Where the degrees are positive. -/
theorem pos_eq :
    (StableHlo.after hostOps0 U (Proc.devRef .tc main_v12) : IVec SN 1)
      = cmpf .ogt (deg wd (dstOf (U (Proc.devRef .tc main_arg1)))) (splat SN bN c0) := by
  simp only [hostOps0, StableHlo.TRef.binary, StableHlo.TRef.nullary, StableHlo.TRef.unary, StableHlo.TRef.ternary, StableHlo.TRef.toBuf,
    StableHlo.TRef.ofBuf, cast_eq]
  after_results_simp
  all_goals rfl

/-- Where the degrees are positive, once more. -/
theorem pos_eq' :
    (StableHlo.after hostOps0 U (Proc.devRef .tc main_v14) : IVec SN 1)
      = cmpf .ogt (deg wd (dstOf (U (Proc.devRef .tc main_arg1)))) (splat SN bN c0) := by
  simp only [hostOps0, StableHlo.TRef.binary, StableHlo.TRef.nullary, StableHlo.TRef.unary, StableHlo.TRef.ternary, StableHlo.TRef.toBuf,
    StableHlo.TRef.ofBuf, cast_eq]
  after_results_simp
  all_goals rfl

/-- The guard of the square root. -/
theorem one_eq :
    (StableHlo.after hostOps0 U (Proc.devRef .tc main_cst_3) : Arr S0)
      = c1 := by
  simp only [hostOps0, StableHlo.TRef.binary, StableHlo.TRef.nullary, StableHlo.TRef.unary, StableHlo.TRef.ternary, StableHlo.TRef.toBuf,
    StableHlo.TRef.ofBuf, cast_eq]
  after_results_simp
  all_goals rfl

/-- The degrees, one where they are not positive. -/
theorem guard_eq :
    (StableHlo.after hostOps0_1 U (Proc.devRef .tc main_v15) : Arr SN)
      = select (U (Proc.devRef .tc main_v14) : IVec SN 1) (U (Proc.devRef .tc main_v10) : Arr SN) (splat SN bN (id (U (Proc.devRef .tc main_cst_3) : Arr S0))) := by
  simp only [hostOps0_1, StableHlo.TRef.binary, StableHlo.TRef.nullary, StableHlo.TRef.unary, StableHlo.TRef.ternary, StableHlo.TRef.toBuf,
    StableHlo.TRef.ofBuf, cast_eq]
  after_results_simp
  all_goals rfl

/-- One over the square root. -/
theorem inv_eq :
    (StableHlo.after hostOps0_2 U (Proc.devRef .tc main_v18) : Arr SN)
      = Host.divf (splat SN bN c1) (Host.sqrt (U (Proc.devRef .tc main_v15) : Arr SN)) := by
  simp only [hostOps0_2, StableHlo.TRef.binary, StableHlo.TRef.nullary, StableHlo.TRef.unary, StableHlo.TRef.ternary, StableHlo.TRef.toBuf,
    StableHlo.TRef.ofBuf, cast_eq]
  after_results_simp
  all_goals rfl

/-- The factor of an isolated node. -/
theorem nil_eq :
    (StableHlo.after hostOps0_2 U (Proc.devRef .tc main_cst_5) : Arr S0)
      = c0 := by
  simp only [hostOps0_2, StableHlo.TRef.binary, StableHlo.TRef.nullary, StableHlo.TRef.unary, StableHlo.TRef.ternary, StableHlo.TRef.toBuf,
    StableHlo.TRef.ofBuf, cast_eq]
  after_results_simp
  all_goals rfl

/-- The normalizing factors. -/
theorem dinv_eq :
    (StableHlo.after hostOps0_3 U (Proc.devRef .tc main_v19) : Arr SN)
      = select (U (Proc.devRef .tc main_v12) : IVec SN 1) (U (Proc.devRef .tc main_v18) : Arr SN) (splat SN bN (id (U (Proc.devRef .tc main_cst_5) : Arr S0))) := by
  simp only [hostOps0_3, StableHlo.TRef.binary, StableHlo.TRef.nullary, StableHlo.TRef.unary, StableHlo.TRef.ternary, StableHlo.TRef.toBuf,
    StableHlo.TRef.ofBuf, cast_eq]
  after_results_simp
  all_goals rfl

/-- The bias operand of the next call is zero. -/
theorem zero_v20 (j : (⟨1, ![64]⟩ : Shape).Idx) : (StableHlo.after hostOps0_4 U (Proc.devRef .tc main_v20) : Arr ⟨1, ![64]⟩) j = (0 : EReal) := by
  simp only [hostOps0_4]
  after_results_simp
  exact word_zero

/-- Graph convolution 1. -/
theorem gcn1_eq :
    (StableHlo.after hostOps1 U (Proc.devRef .tc main_v40) : Arr (SNH 64))
      = gcnK wg2 ws2 (U (Proc.devRef .tc main_v3)) (U (Proc.devRef .tc main_v6)) (U (Proc.devRef .tc main_v19)) (U (Proc.devRef .tc main_v21)) (U (Proc.devRef .tc main_arg3)) := by
  simp only [hostOps1, StableHlo.TRef.binary, StableHlo.TRef.nullary, StableHlo.TRef.unary, StableHlo.TRef.ternary, StableHlo.TRef.toBuf,
    StableHlo.TRef.ofBuf, cast_eq]
  after_results_simp
  all_goals rfl

/-- Its activation. -/
theorem act1_eq :
    (StableHlo.after hostOps1_1 U (Proc.devRef .tc main_v41) : Arr (SNH 64))
      = elu bN64 (U (Proc.devRef .tc main_v40)) := by
  simp only [hostOps1_1, StableHlo.TRef.binary, StableHlo.TRef.nullary, StableHlo.TRef.unary, StableHlo.TRef.ternary, StableHlo.TRef.toBuf,
    StableHlo.TRef.ofBuf, cast_eq]
  after_results_simp
  all_goals rfl

/-- The bias operand of the next call is zero. -/
theorem zero_v42 (j : (⟨1, ![64]⟩ : Shape).Idx) : (StableHlo.after hostOps1_2 U (Proc.devRef .tc main_v42) : Arr ⟨1, ![64]⟩) j = (0 : EReal) := by
  simp only [hostOps1_2]
  after_results_simp
  exact word_zero

/-- Graph convolution 2. -/
theorem gcn2_eq :
    (StableHlo.after hostOps2 U (Proc.devRef .tc main_v62) : Arr (SNH 64))
      = gcnK wg2 ws2 (U (Proc.devRef .tc main_v3)) (U (Proc.devRef .tc main_v6)) (U (Proc.devRef .tc main_v19)) (U (Proc.devRef .tc main_v43)) (U (Proc.devRef .tc main_arg5)) := by
  simp only [hostOps2, StableHlo.TRef.binary, StableHlo.TRef.nullary, StableHlo.TRef.unary, StableHlo.TRef.ternary, StableHlo.TRef.toBuf,
    StableHlo.TRef.ofBuf, cast_eq]
  after_results_simp
  all_goals rfl

/-- Its activation. -/
theorem act2_eq :
    (StableHlo.after hostOps2_1 U (Proc.devRef .tc main_v63) : Arr (SNH 64))
      = elu bN64 (U (Proc.devRef .tc main_v62)) := by
  simp only [hostOps2_1, StableHlo.TRef.binary, StableHlo.TRef.nullary, StableHlo.TRef.unary, StableHlo.TRef.ternary, StableHlo.TRef.toBuf,
    StableHlo.TRef.ofBuf, cast_eq]
  after_results_simp
  all_goals rfl

/-- The bias operand of the next call is zero. -/
theorem zero_v64 (j : (⟨1, ![512]⟩ : Shape).Idx) : (StableHlo.after hostOps2_2 U (Proc.devRef .tc main_v64) : Arr ⟨1, ![512]⟩) j = (0 : EReal) := by
  simp only [hostOps2_2]
  after_results_simp
  exact word_zero

end Cert.KernelIdeal.Stretch

end
-- ==== Proof.ChainA.lean ====
/- The arrays the kernel's run holds along the way: the edges and the normalizing factors, and the two graph convolutions. -/
module

public import proofs.«01_k».proof.Proof.Regions
public import proofs.«01_k».proof.Proof.StretchA

@[expose] public section

set_option maxRecDepth 16384

noncomputable section

namespace Cert.KernelIdeal.Chain

open Idealize.ShloMosaic Idealize.ShloMosaic.TcCoe
open Cert.KernelIdeal.Gen Cert.KernelIdeal.Stretch Cert.KernelIdeal.Regions Cert.Gnn

variable (m : (ℓ : Loc nD τ sig) → Buf (Elt Ideal) ℓ) (ρ : Dev nD → PrngReg) (c : Dev nD)

/-- The edges, as launched. -/
abbrev edges : IVec (SM 2 320000) 32 := m ((c : Thread nD τ).loc main_arg1)
/-- The floating arguments, as launched. -/
abbrev wts : Weights where
  x := m ((c : Thread nD τ).loc main_arg0)
  w1 := m ((c : Thread nD τ).loc main_arg2)
  b1 := m ((c : Thread nD τ).loc main_arg3)
  w2 := m ((c : Thread nD τ).loc main_arg4)
  b2 := m ((c : Thread nD τ).loc main_arg5)
  wg1 := m ((c : Thread nD τ).loc main_arg6)
  s1 := m ((c : Thread nD τ).loc main_arg7)
  d1 := m ((c : Thread nD τ).loc main_arg8)
  bg1 := m ((c : Thread nD τ).loc main_arg9)
  wg2 := m ((c : Thread nD τ).loc main_arg10)
  s2 := m ((c : Thread nD τ).loc main_arg11)
  d2 := m ((c : Thread nD τ).loc main_arg12)
  bg2 := m ((c : Thread nD τ).loc main_arg13)
  wg3 := m ((c : Thread nD τ).loc main_arg14)
  s3 := m ((c : Thread nD τ).loc main_arg15)
  d3 := m ((c : Thread nD τ).loc main_arg16)
  bg3 := m ((c : Thread nD τ).loc main_arg17)

/-- The edges' sources. -/
abbrev src : IVec SE 32 := srcOf (edges m c)
/-- The edges' targets. -/
abbrev dst : IVec SE 32 := dstOf (edges m c)

/-- The contents `W` hold the edges' sources and targets. -/
def HasEdges (W : Valuation τ sig (Elt Ideal)) : Prop :=
  (W (Proc.devRef .tc main_v3) : IVec SE 32) = src m c ∧ (W (Proc.devRef .tc main_v6) : IVec SE 32) = dst m c

theorem HasEdges.keep {W W' : Valuation τ sig (Elt Ideal)} (h : HasEdges m c W)
    (h3 : W' (Proc.devRef .tc main_v3) = W (Proc.devRef .tc main_v3)) (h6 : W' (Proc.devRef .tc main_v6) = W (Proc.devRef .tc main_v6)) :
    HasEdges m c W' := ⟨h3.trans h.1, h6.trans h.2⟩

theorem edges1 : HasEdges m c (W1 m ρ c) :=
  ⟨src_eq (W0 m ρ c), dst_eq (W0 m ρ c)⟩
theorem edges2 : HasEdges m c (W2 m ρ c) :=
  (edges1 m ρ c).keep m c (W2_of m ρ c main_v3 (by decide)) (W2_of m ρ c main_v6 (by decide))
theorem edges3 : HasEdges m c (W3 m ρ c) :=
  (edges2 m ρ c).keep m c (W3_of m ρ c main_v3 (by decide)) (W3_of m ρ c main_v6 (by decide))
theorem edges4 : HasEdges m c (W4 m ρ c) :=
  (edges3 m ρ c).keep m c (W4_of m ρ c main_v3 (by decide)) (W4_of m ρ c main_v6 (by decide))
theorem edges5 : HasEdges m c (W5 m ρ c) :=
  (edges4 m ρ c).keep m c (W5_of m ρ c main_v3 (by decide)) (W5_of m ρ c main_v6 (by decide))
theorem edges6 : HasEdges m c (W6 m ρ c) :=
  (edges5 m ρ c).keep m c (W6_of_ne m ρ c main_v3 (by decide)) (W6_of_ne m ρ c main_v6 (by decide))
theorem edges7 : HasEdges m c (W7 m ρ c) :=
  (edges6 m ρ c).keep m c (W7_of m ρ c main_v3 (by decide)) (W7_of m ρ c main_v6 (by decide))
theorem edges8 : HasEdges m c (W8 m ρ c) :=
  (edges7 m ρ c).keep m c (W8_of m ρ c main_v3 (by decide)) (W8_of m ρ c main_v6 (by decide))
theorem edges9 : HasEdges m c (W9 m ρ c) :=
  (edges8 m ρ c).keep m c (W9_of m ρ c main_v3 (by decide)) (W9_of m ρ c main_v6 (by decide))
theorem edges10 : HasEdges m c (W10 m ρ c) :=
  (edges9 m ρ c).keep m c (W10_of_ne m ρ c main_v3 (by decide)) (W10_of_ne m ρ c main_v6 (by decide))
theorem edges11 : HasEdges m c (W11 m ρ c) :=
  (edges10 m ρ c).keep m c (W11_of m ρ c main_v3 (by decide)) (W11_of m ρ c main_v6 (by decide))
theorem edges12 : HasEdges m c (W12 m ρ c) :=
  (edges11 m ρ c).keep m c (W12_of m ρ c main_v3 (by decide)) (W12_of m ρ c main_v6 (by decide))
theorem edges13 : HasEdges m c (W13 m ρ c) :=
  (edges12 m ρ c).keep m c (W13_of m ρ c main_v3 (by decide)) (W13_of m ρ c main_v6 (by decide))
theorem edges14 : HasEdges m c (W14 m ρ c) :=
  (edges13 m ρ c).keep m c (W14_of_ne m ρ c main_v3 (by decide)) (W14_of_ne m ρ c main_v6 (by decide))
theorem edges15 : HasEdges m c (W15 m ρ c) :=
  (edges14 m ρ c).keep m c (W15_of m ρ c main_v3 (by decide)) (W15_of m ρ c main_v6 (by decide))
theorem edges16 : HasEdges m c (W16 m ρ c) :=
  (edges15 m ρ c).keep m c (W16_of m ρ c main_v3 (by decide)) (W16_of m ρ c main_v6 (by decide))
theorem edges17 : HasEdges m c (W17 m ρ c) :=
  (edges16 m ρ c).keep m c (W17_of m ρ c main_v3 (by decide)) (W17_of m ρ c main_v6 (by decide))
theorem edges18 : HasEdges m c (W18 m ρ c) :=
  (edges17 m ρ c).keep m c (W18_of m ρ c main_v3 (by decide)) (W18_of m ρ c main_v6 (by decide))
theorem edges19 : HasEdges m c (W19 m ρ c) :=
  (edges18 m ρ c).keep m c (W19_of m ρ c main_v3 (by decide)) (W19_of m ρ c main_v6 (by decide))
theorem edges20 : HasEdges m c (W20 m ρ c) :=
  (edges19 m ρ c).keep m c (W20_of m ρ c main_v3 (by decide)) (W20_of m ρ c main_v6 (by decide))
theorem edges21 : HasEdges m c (W21 m ρ c) :=
  (edges20 m ρ c).keep m c (W21_of m ρ c main_v3 (by decide)) (W21_of m ρ c main_v6 (by decide))
theorem edges22 : HasEdges m c (W22 m ρ c) :=
  (edges21 m ρ c).keep m c (W22_of_ne m ρ c main_v3 (by decide)) (W22_of_ne m ρ c main_v6 (by decide))
theorem edges23 : HasEdges m c (W23 m ρ c) :=
  (edges22 m ρ c).keep m c (W23_of m ρ c main_v3 (by decide)) (W23_of m ρ c main_v6 (by decide))
theorem edges24 : HasEdges m c (W24 m ρ c) :=
  (edges23 m ρ c).keep m c (W24_of m ρ c main_v3 (by decide)) (W24_of m ρ c main_v6 (by decide))
theorem edges25 : HasEdges m c (W25 m ρ c) :=
  (edges24 m ρ c).keep m c (W25_of m ρ c main_v3 (by decide)) (W25_of m ρ c main_v6 (by decide))
theorem edges26 : HasEdges m c (W26 m ρ c) :=
  (edges25 m ρ c).keep m c (W26_of m ρ c main_v3 (by decide)) (W26_of m ρ c main_v6 (by decide))
theorem edges27 : HasEdges m c (W27 m ρ c) :=
  (edges26 m ρ c).keep m c (W27_of m ρ c main_v3 (by decide)) (W27_of m ρ c main_v6 (by decide))
theorem edges28 : HasEdges m c (W28 m ρ c) :=
  (edges27 m ρ c).keep m c (W28_of m ρ c main_v3 (by decide)) (W28_of m ρ c main_v6 (by decide))
theorem edges29 : HasEdges m c (W29 m ρ c) :=
  (edges28 m ρ c).keep m c (W29_of m ρ c main_v3 (by decide)) (W29_of m ρ c main_v6 (by decide))
theorem edges30 : HasEdges m c (W30 m ρ c) :=
  (edges29 m ρ c).keep m c (W30_of_ne m ρ c main_v3 (by decide)) (W30_of_ne m ρ c main_v6 (by decide))
theorem edges31 : HasEdges m c (W31 m ρ c) :=
  (edges30 m ρ c).keep m c (W31_of m ρ c main_v3 (by decide)) (W31_of m ρ c main_v6 (by decide))
theorem edges32 : HasEdges m c (W32 m ρ c) :=
  (edges31 m ρ c).keep m c (W32_of m ρ c main_v3 (by decide)) (W32_of m ρ c main_v6 (by decide))
theorem edges33 : HasEdges m c (W33 m ρ c) :=
  (edges32 m ρ c).keep m c (W33_of m ρ c main_v3 (by decide)) (W33_of m ρ c main_v6 (by decide))
theorem edges34 : HasEdges m c (W34 m ρ c) :=
  (edges33 m ρ c).keep m c (W34_of m ρ c main_v3 (by decide)) (W34_of m ρ c main_v6 (by decide))
theorem edges35 : HasEdges m c (W35 m ρ c) :=
  (edges34 m ρ c).keep m c (W35_of m ρ c main_v3 (by decide)) (W35_of m ρ c main_v6 (by decide))

/-- The normalizing factors, before the first call. -/
theorem norm4 : (W4 m ρ c (Proc.devRef .tc main_v19) : Arr SN) = norm (dst m c) := by
  have h12 : (W3 m ρ c (Proc.devRef .tc main_v12) : IVec SN 1) = cmpf .ogt (deg wd (dst m c)) (splat SN bN c0) :=
    (W3_of m ρ c main_v12 (by decide)).trans ((W2_of m ρ c main_v12 (by decide)).trans (pos_eq (W0 m ρ c)))
  have h14 : (W1 m ρ c (Proc.devRef .tc main_v14) : IVec SN 1) = cmpf .ogt (deg wd (dst m c)) (splat SN bN c0) := pos_eq' (W0 m ρ c)
  have h10 : (W1 m ρ c (Proc.devRef .tc main_v10) : Arr SN) = deg wd (dst m c) := deg_eq (W0 m ρ c)
  have h1 : (W1 m ρ c (Proc.devRef .tc main_cst_3) : Arr S0) = c1 := one_eq (W0 m ρ c)
  have h15 := guard_eq (W1 m ρ c)
  rw [h14, h10, h1] at h15
  have h18 := inv_eq (W2 m ρ c)
  have h0 : (W3 m ρ c (Proc.devRef .tc main_cst_5) : Arr S0) = c0 := nil_eq (W2 m ρ c)
  have h15' : (W2 m ρ c (Proc.devRef .tc main_v15) : Arr SN) = _ := h15
  rw [h15'] at h18
  have h18' : (W3 m ρ c (Proc.devRef .tc main_v18) : Arr SN) = _ := h18
  have h19 := dinv_eq (W3 m ρ c)
  rw [h12, h18', h0] at h19
  exact h19
theorem norm5 : (W5 m ρ c (Proc.devRef .tc main_v19) : Arr SN) = norm (dst m c) := (W5_of m ρ c main_v19 (by decide)).trans (norm4 m ρ c)
theorem norm6 : (W6 m ρ c (Proc.devRef .tc main_v19) : Arr SN) = norm (dst m c) := (W6_of_ne m ρ c main_v19 (by decide)).trans (norm5 m ρ c)
theorem norm7 : (W7 m ρ c (Proc.devRef .tc main_v19) : Arr SN) = norm (dst m c) := (W7_of m ρ c main_v19 (by decide)).trans (norm6 m ρ c)
theorem norm8 : (W8 m ρ c (Proc.devRef .tc main_v19) : Arr SN) = norm (dst m c) := (W8_of m ρ c main_v19 (by decide)).trans (norm7 m ρ c)
theorem norm9 : (W9 m ρ c (Proc.devRef .tc main_v19) : Arr SN) = norm (dst m c) := (W9_of m ρ c main_v19 (by decide)).trans (norm8 m ρ c)
theorem norm10 : (W10 m ρ c (Proc.devRef .tc main_v19) : Arr SN) = norm (dst m c) := (W10_of_ne m ρ c main_v19 (by decide)).trans (norm9 m ρ c)
theorem norm11 : (W11 m ρ c (Proc.devRef .tc main_v19) : Arr SN) = norm (dst m c) := (W11_of m ρ c main_v19 (by decide)).trans (norm10 m ρ c)
theorem norm12 : (W12 m ρ c (Proc.devRef .tc main_v19) : Arr SN) = norm (dst m c) := (W12_of m ρ c main_v19 (by decide)).trans (norm11 m ρ c)

/-- The first convolution layer. -/
abbrev conv1 : Arr (SNH 64) := convK (src m c) (dst m c) (wts m c).x (wts m c).w1 (wts m c).b1

/-- What call 0 leaves. -/
theorem call0 : (W6 m ρ c (Proc.devRef .tc main_v21) : Arr (SNH 64)) = mm (wts m c).x (wts m c).w1 := by
  have h := final0 (V5 m ρ) c (zero_v20 (W4 m ρ c))
  have hx : (W5 m ρ c (Proc.devRef .tc main_arg0) : Arr (SM 10000 128)) = (wts m c).x := W5_args m ρ c main_arg0 (by decide)
  have hw : (W5 m ρ c (Proc.devRef .tc main_arg2) : Arr _) = (wts m c).w1 := W5_args m ρ c main_arg2 (by decide)
  exact (W6_arr m ρ c 3).trans (h.trans (congrArg₂ mm hx hw))

/-- The layer's activation. -/
theorem act1 : (W8 m ρ c (Proc.devRef .tc main_v41) : Arr (SNH 64)) = conv1 m c := by
  have h := gcn1_eq (W6 m ρ c)
  have hb : (W6 m ρ c (Proc.devRef .tc main_arg3) : Arr _) = (wts m c).b1 := W6_args m ρ c main_arg3 (by decide)
  rw [(edges6 m ρ c).1, (edges6 m ρ c).2, norm6 m ρ c, call0 m ρ c, hb] at h
  have h' : (W7 m ρ c (Proc.devRef .tc main_v40) : Arr (SNH 64)) = _ := h
  have e := act1_eq (W7 m ρ c)
  rw [h'] at e
  exact e

theorem act1' : (W9 m ρ c (Proc.devRef .tc main_v41) : Arr (SNH 64)) = conv1 m c := (W9_of m ρ c main_v41 (by decide)).trans (act1 m ρ c)

/-- The second convolution layer. -/
abbrev conv2 : Arr (SNH 64) := convK (src m c) (dst m c) (conv1 m c) (wts m c).w2 (wts m c).b2

/-- What call 1 leaves. -/
theorem call1 : (W10 m ρ c (Proc.devRef .tc main_v43) : Arr (SNH 64)) = mm (conv1 m c) (wts m c).w2 := by
  have h := final1 (V9 m ρ) c (zero_v42 (W8 m ρ c))
  have hx : (W9 m ρ c (Proc.devRef .tc main_v41) : Arr (SNH 64)) = conv1 m c := act1' m ρ c
  have hw : (W9 m ρ c (Proc.devRef .tc main_arg4) : Arr _) = (wts m c).w2 := W9_args m ρ c main_arg4 (by decide)
  exact (W10_arr m ρ c 3).trans (h.trans (congrArg₂ mm hx hw))

/-- The layer's activation. -/
theorem act2 : (W12 m ρ c (Proc.devRef .tc main_v63) : Arr (SNH 64)) = conv2 m c := by
  have h := gcn2_eq (W10 m ρ c)
  have hb : (W10 m ρ c (Proc.devRef .tc main_arg5) : Arr _) = (wts m c).b2 := W10_args m ρ c main_arg5 (by decide)
  rw [(edges10 m ρ c).1, (edges10 m ρ c).2, norm10 m ρ c, call1 m ρ c, hb] at h
  have h' : (W11 m ρ c (Proc.devRef .tc main_v62) : Arr (SNH 64)) = _ := h
  have e := act2_eq (W11 m ρ c)
  rw [h'] at e
  exact e

theorem act2' : (W13 m ρ c (Proc.devRef .tc main_v63) : Arr (SNH 64)) = conv2 m c := (W13_of m ρ c main_v63 (by decide)).trans (act2 m ρ c)
end Cert.KernelIdeal.Chain

end
-- ==== Proof.StretchB.lean ====
/- What the kernel's host computes in attention layer 1, one stretch at a time, from the arrays the stretch finds. -/
module

public import proofs.«01_k».proof.Proof.Network
public import proofs.«01_k».proof.Proof.Gen.KernelIdeal.Launch

@[expose] public section

set_option maxRecDepth 16384

noncomputable section

namespace Cert.KernelIdeal.Stretch

open Idealize.ShloMosaic Idealize.ShloMosaic.TcCoe
open Cert.KernelIdeal.Gen Cert.Gnn

variable (U : Valuation τ sig (Elt Ideal))

/-- The rows, per head. -/
theorem rows1_eq :
    (StableHlo.after hostOps3 U (Proc.devRef .tc main_v66) : Arr (SNHC 8))
      = (shapeCast (SNHC 8) (U (Proc.devRef .tc main_v65) : Arr (SM 10000 512)) split8) := by
  simp only [hostOps3, StableHlo.TRef.binary, StableHlo.TRef.nullary, StableHlo.TRef.unary, StableHlo.TRef.ternary, StableHlo.TRef.toBuf,
    StableHlo.TRef.ofBuf, cast_eq]
  after_results_simp
  all_goals rfl

/-- The sources' terms of the logits. -/
theorem als1_eq :
    (StableHlo.after hostOps3 U (Proc.devRef .tc main_v70) : Arr (SNH 8))
      = al heads8 (shapeCast (SNHC 8) (U (Proc.devRef .tc main_v65) : Arr (SM 10000 512)) split8) (U (Proc.devRef .tc main_arg7)) := by
  simp only [hostOps3, StableHlo.TRef.binary, StableHlo.TRef.nullary, StableHlo.TRef.unary, StableHlo.TRef.ternary, StableHlo.TRef.toBuf,
    StableHlo.TRef.ofBuf, cast_eq]
  after_results_simp
  all_goals rfl

/-- The targets' terms of the logits. -/
theorem ald1_eq :
    (StableHlo.after hostOps3 U (Proc.devRef .tc main_v74) : Arr (SNH 8))
      = al heads8 (shapeCast (SNHC 8) (U (Proc.devRef .tc main_v65) : Arr (SM 10000 512)) split8) (U (Proc.devRef .tc main_arg8)) := by
  simp only [hostOps3, StableHlo.TRef.binary, StableHlo.TRef.nullary, StableHlo.TRef.unary, StableHlo.TRef.ternary, StableHlo.TRef.toBuf,
    StableHlo.TRef.ofBuf, cast_eq]
  after_results_simp
  all_goals rfl

/-- The bound before its activation. -/
theorem pre1_eq :
    (StableHlo.after hostOps3 U (Proc.devRef .tc main_v78) : Arr (SNH 8))
      = addf (al heads8 (shapeCast (SNHC 8) (U (Proc.devRef .tc main_v65) : Arr (SM 10000 512)) split8) (U (Proc.devRef .tc main_arg8))) (broadcastInDim (SNH 8) ![0, 1] heads8.m2 (broadcastInDim ⟨2, ![1, 8]⟩ ![1] heads8.m1
        (Host.reduce FloatOps.maximumf (al heads8 (shapeCast (SNHC 8) (U (Proc.devRef .tc main_v65) : Arr (SM 10000 512)) split8) (U (Proc.devRef .tc main_arg7))) cBot heads8.rN h0))) := by
  simp only [hostOps3, StableHlo.TRef.binary, StableHlo.TRef.nullary, StableHlo.TRef.unary, StableHlo.TRef.ternary, StableHlo.TRef.toBuf,
    StableHlo.TRef.ofBuf, cast_eq]
  after_results_simp
  all_goals rfl

/-- The slope. -/
theorem slope1_eq :
    (StableHlo.after hostOps3 U (Proc.devRef .tc main_cst_17) : Arr S0)
      = cSlope := by
  simp only [hostOps3, StableHlo.TRef.binary, StableHlo.TRef.nullary, StableHlo.TRef.unary, StableHlo.TRef.ternary, StableHlo.TRef.toBuf,
    StableHlo.TRef.ofBuf, cast_eq]
  after_results_simp
  all_goals rfl

/-- The bound. -/
theorem bound1_eq (h : (U (Proc.devRef .tc main_cst_17) : Arr S0) = cSlope) :
    (StableHlo.after hostOps3_1 U (Proc.devRef .tc main_v79) : Arr (SNH 8))
      = leakyN heads8 (U (Proc.devRef .tc main_v78)) := by
  simp only [hostOps3_1, StableHlo.TRef.binary, StableHlo.TRef.nullary, StableHlo.TRef.unary, StableHlo.TRef.ternary, StableHlo.TRef.toBuf,
    StableHlo.TRef.ofBuf, cast_eq]
  after_results_simp
  all_goals simp only [h]
  all_goals rfl

/-- The logits before their activation. -/
theorem prel1_eq :
    (StableHlo.after hostOps3_2 U (Proc.devRef .tc main_v94) : Arr (SEH 8))
      = (addf (Host.gather (gN heads8) (U (Proc.devRef .tc main_v70) : Arr (SNH 8)) (wrap (U (Proc.devRef .tc main_v3)))) (Host.gather (gN heads8) (U (Proc.devRef .tc main_v74) : Arr (SNH 8)) (wrap (U (Proc.devRef .tc main_v6)))) : Arr (SEH 8)) := by
  simp only [hostOps3_2, StableHlo.TRef.binary, StableHlo.TRef.nullary, StableHlo.TRef.unary, StableHlo.TRef.ternary, StableHlo.TRef.toBuf,
    StableHlo.TRef.ofBuf, cast_eq]
  after_results_simp
  all_goals rfl

/-- The slope, once more. -/
theorem slope1_eq' :
    (StableHlo.after hostOps3_2 U (Proc.devRef .tc main_cst_22) : Arr S0)
      = cSlope := by
  simp only [hostOps3_2, StableHlo.TRef.binary, StableHlo.TRef.nullary, StableHlo.TRef.unary, StableHlo.TRef.ternary, StableHlo.TRef.toBuf,
    StableHlo.TRef.ofBuf, cast_eq]
  after_results_simp
  all_goals rfl

/-- The logits. -/
theorem logit1_eq (h : (U (Proc.devRef .tc main_cst_22) : Arr S0) = cSlope) :
    (StableHlo.after hostOps3_3 U (Proc.devRef .tc main_v95) : Arr (SEH 8))
      = leakyE heads8 (U (Proc.devRef .tc main_v94)) := by
  simp only [hostOps3_3, StableHlo.TRef.binary, StableHlo.TRef.nullary, StableHlo.TRef.unary, StableHlo.TRef.ternary, StableHlo.TRef.toBuf,
    StableHlo.TRef.ofBuf, cast_eq]
  after_results_simp
  all_goals simp only [h]
  all_goals rfl

/-- The mix divided by the guarded sum of the weights, plus the bias. -/
theorem gat1_eq :
    (StableHlo.after hostOps3_4 U (Proc.devRef .tc main_v129) : Arr (SM 10000 512))
      = addf (shapeCast (SM 10000 512) (gatFrom heads8 (U (Proc.devRef .tc main_v3)) (U (Proc.devRef .tc main_v6)) (U (Proc.devRef .tc main_v66)) (U (Proc.devRef .tc main_v95)) (U (Proc.devRef .tc main_v79))) join8) (bias512 (U (Proc.devRef .tc main_arg9))) := by
  simp only [hostOps3_4, StableHlo.TRef.binary, StableHlo.TRef.nullary, StableHlo.TRef.unary, StableHlo.TRef.ternary, StableHlo.TRef.toBuf,
    StableHlo.TRef.ofBuf, cast_eq]
  after_results_simp
  all_goals rfl

/-- Its activation. -/
theorem gatact1_eq :
    (StableHlo.after hostOps3_5 U (Proc.devRef .tc main_v130) : Arr (SM 10000 512))
      = elu bN512 (U (Proc.devRef .tc main_v129)) := by
  simp only [hostOps3_5, StableHlo.TRef.binary, StableHlo.TRef.nullary, StableHlo.TRef.unary, StableHlo.TRef.ternary, StableHlo.TRef.toBuf,
    StableHlo.TRef.ofBuf, cast_eq]
  after_results_simp
  all_goals rfl

/-- The bias operand of the next call is zero. -/
theorem zero_v131 (j : (⟨1, ![512]⟩ : Shape).Idx) : (StableHlo.after hostOps3_6 U (Proc.devRef .tc main_v131) : Arr ⟨1, ![512]⟩) j = (0 : EReal) := by
  simp only [hostOps3_6]
  after_results_simp
  exact word_zero

end Cert.KernelIdeal.Stretch

end
-- ==== Proof.ChainB.lean ====
/- The arrays the kernel's run holds along attention layer 1. -/
module

public import proofs.«01_k».proof.Proof.ChainA
public import proofs.«01_k».proof.Proof.StretchB

@[expose] public section

set_option maxRecDepth 16384

noncomputable section

namespace Cert.KernelIdeal.Chain

open Idealize.ShloMosaic Idealize.ShloMosaic.TcCoe
open Cert.KernelIdeal.Gen Cert.KernelIdeal.Stretch Cert.KernelIdeal.Regions Cert.Gnn

variable (m : (ℓ : Loc nD τ sig) → Buf (Elt Ideal) ℓ) (ρ : Dev nD → PrngReg) (c : Dev nD)

/-- Attention layer 1. -/
abbrev att1 : Arr (SM 10000 512) := attK (src m c) (dst m c) (conv2 m c) (wts m c).wg1 (wts m c).s1 (wts m c).d1 (wts m c).bg1

/-- The layer's rows, per head. -/
abbrev rows1 : Arr (SNHC 8) := shapeCast (SNHC 8) (mm (conv2 m c) (wts m c).wg1) split8
/-- The sources' terms of the layer's logits. -/
abbrev als1 : Arr (SNH 8) := al heads8 (rows1 m c) (wts m c).s1
/-- The targets' terms. -/
abbrev ald1 : Arr (SNH 8) := al heads8 (rows1 m c) (wts m c).d1

/-- What call 2 leaves. -/
theorem call2 : (W14 m ρ c (Proc.devRef .tc main_v65) : Arr (SM 10000 512)) = mm (conv2 m c) (wts m c).wg1 := by
  have h := final2 (V13 m ρ) c (zero_v64 (W12 m ρ c))
  have hx : (W13 m ρ c (Proc.devRef .tc main_v63) : Arr (SM 10000 64)) = conv2 m c := act2' m ρ c
  have hw : (W13 m ρ c (Proc.devRef .tc main_arg6) : Arr _) = (wts m c).wg1 := W13_args m ρ c main_arg6 (by decide)
  exact (W14_arr m ρ c 3).trans (h.trans (congrArg₂ mm hx hw))

theorem hrows1 : (W15 m ρ c (Proc.devRef .tc main_v66) : Arr (SNHC 8)) = rows1 m c := by
  have h := rows1_eq (W14 m ρ c)
  rw [call2 m ρ c] at h
  exact h
theorem hals1 : (W15 m ρ c (Proc.devRef .tc main_v70) : Arr (SNH 8)) = als1 m c := by
  have h := als1_eq (W14 m ρ c)
  have ha : (W14 m ρ c (Proc.devRef .tc main_arg7) : Arr _) = (wts m c).s1 := W14_args m ρ c main_arg7 (by decide)
  rw [call2 m ρ c, ha] at h
  exact h
theorem hald1 : (W15 m ρ c (Proc.devRef .tc main_v74) : Arr (SNH 8)) = ald1 m c := by
  have h := ald1_eq (W14 m ρ c)
  have ha : (W14 m ρ c (Proc.devRef .tc main_arg8) : Arr _) = (wts m c).d1 := W14_args m ρ c main_arg8 (by decide)
  rw [call2 m ρ c, ha] at h
  exact h

/-- The bound on the logits. -/
theorem hbound1 : (W16 m ρ c (Proc.devRef .tc main_v79) : Arr (SNH 8)) = bound heads8 (als1 m c) (ald1 m c) := by
  have h := pre1_eq (W14 m ρ c)
  have ha : (W14 m ρ c (Proc.devRef .tc main_arg7) : Arr _) = (wts m c).s1 := W14_args m ρ c main_arg7 (by decide)
  have hb : (W14 m ρ c (Proc.devRef .tc main_arg8) : Arr _) = (wts m c).d1 := W14_args m ρ c main_arg8 (by decide)
  rw [call2 m ρ c, ha, hb] at h
  have h' : (W15 m ρ c (Proc.devRef .tc main_v78) : Arr (SNH 8)) = _ := h
  have e := bound1_eq (W15 m ρ c) (slope1_eq (W14 m ρ c))
  rw [h'] at e
  exact e

/-- The logits. -/
theorem hlogit1 : (W18 m ρ c (Proc.devRef .tc main_v95) : Arr (SEH 8)) = logit heads8 (src m c) (dst m c) (als1 m c) (ald1 m c) := by
  have h := prel1_eq (W16 m ρ c)
  have ha : (W16 m ρ c (Proc.devRef .tc main_v70) : Arr (SNH 8)) = als1 m c := (W16_of m ρ c main_v70 (by decide)).trans (hals1 m ρ c)
  have hb : (W16 m ρ c (Proc.devRef .tc main_v74) : Arr (SNH 8)) = ald1 m c := (W16_of m ρ c main_v74 (by decide)).trans (hald1 m ρ c)
  rw [(edges16 m ρ c).1, (edges16 m ρ c).2, ha, hb] at h
  have h' : (W17 m ρ c (Proc.devRef .tc main_v94) : Arr (SEH 8)) = _ := h
  have e := logit1_eq (W17 m ρ c) (slope1_eq' (W16 m ρ c))
  rw [h'] at e
  exact e

/-- The layer's result. -/
theorem gact1 : (W20 m ρ c (Proc.devRef .tc main_v130) : Arr (SM 10000 512)) = att1 m c := by
  have h := gat1_eq (W18 m ρ c)
  have hr : (W18 m ρ c (Proc.devRef .tc main_v66) : Arr (SNHC 8)) = rows1 m c :=
    (W18_of m ρ c main_v66 (by decide)).trans ((W17_of m ρ c main_v66 (by decide)).trans ((W16_of m ρ c main_v66 (by decide)).trans (hrows1 m ρ c)))
  have hm : (W18 m ρ c (Proc.devRef .tc main_v79) : Arr (SNH 8)) = bound heads8 (als1 m c) (ald1 m c) :=
    (W18_of m ρ c main_v79 (by decide)).trans ((W17_of m ρ c main_v79 (by decide)).trans (hbound1 m ρ c))
  have ha : (W18 m ρ c (Proc.devRef .tc main_arg9) : Arr _) = (wts m c).bg1 := W18_args m ρ c main_arg9 (by decide)
  rw [(edges18 m ρ c).1, (edges18 m ρ c).2, hr, hm, hlogit1 m ρ c, ha, gatFrom_eq] at h
  have h' : (W19 m ρ c (Proc.devRef .tc main_v129) : Arr (SM 10000 512)) = _ := h
  have e := gatact1_eq (W19 m ρ c)
  rw [h'] at e
  exact e

theorem gact1' : (W21 m ρ c (Proc.devRef .tc main_v130) : Arr (SM 10000 512)) = att1 m c := (W21_of m ρ c main_v130 (by decide)).trans (gact1 m ρ c)

end Cert.KernelIdeal.Chain

end
-- ==== Proof.StretchC.lean ====
/- What the kernel's host computes in attention layer 2, one stretch at a time, from the arrays the stretch finds. -/
module

public import proofs.«01_k».proof.Proof.Network
public import proofs.«01_k».proof.Proof.Gen.KernelIdeal.Launch

@[expose] public section

set_option maxRecDepth 16384

noncomputable section

namespace Cert.KernelIdeal.Stretch

open Idealize.ShloMosaic Idealize.ShloMosaic.TcCoe
open Cert.KernelIdeal.Gen Cert.Gnn

variable (U : Valuation τ sig (Elt Ideal))

/-- The rows, per head. -/
theorem rows2_eq :
    (StableHlo.after hostOps4 U (Proc.devRef .tc main_v133) : Arr (SNHC 8))
      = (shapeCast (SNHC 8) (U (Proc.devRef .tc main_v132) : Arr (SM 10000 512)) split8) := by
  simp only [hostOps4, StableHlo.TRef.binary, StableHlo.TRef.nullary, StableHlo.TRef.unary, StableHlo.TRef.ternary, StableHlo.TRef.toBuf,
    StableHlo.TRef.ofBuf, cast_eq]
  after_results_simp
  all_goals rfl

/-- The sources' terms of the logits. -/
theorem als2_eq :
    (StableHlo.after hostOps4 U (Proc.devRef .tc main_v137) : Arr (SNH 8))
      = al heads8 (shapeCast (SNHC 8) (U (Proc.devRef .tc main_v132) : Arr (SM 10000 512)) split8) (U (Proc.devRef .tc main_arg11)) := by
  simp only [hostOps4, StableHlo.TRef.binary, StableHlo.TRef.nullary, StableHlo.TRef.unary, StableHlo.TRef.ternary, StableHlo.TRef.toBuf,
    StableHlo.TRef.ofBuf, cast_eq]
  after_results_simp
  all_goals rfl

/-- The targets' terms of the logits. -/
theorem ald2_eq :
    (StableHlo.after hostOps4 U (Proc.devRef .tc main_v141) : Arr (SNH 8))
      = al heads8 (shapeCast (SNHC 8) (U (Proc.devRef .tc main_v132) : Arr (SM 10000 512)) split8) (U (Proc.devRef .tc main_arg12)) := by
  simp only [hostOps4, StableHlo.TRef.binary, StableHlo.TRef.nullary, StableHlo.TRef.unary, StableHlo.TRef.ternary, StableHlo.TRef.toBuf,
    StableHlo.TRef.ofBuf, cast_eq]
  after_results_simp
  all_goals rfl

/-- The bound before its activation. -/
theorem pre2_eq :
    (StableHlo.after hostOps4 U (Proc.devRef .tc main_v145) : Arr (SNH 8))
      = addf (al heads8 (shapeCast (SNHC 8) (U (Proc.devRef .tc main_v132) : Arr (SM 10000 512)) split8) (U (Proc.devRef .tc main_arg12))) (broadcastInDim (SNH 8) ![0, 1] heads8.m2 (broadcastInDim ⟨2, ![1, 8]⟩ ![1] heads8.m1
        (Host.reduce FloatOps.maximumf (al heads8 (shapeCast (SNHC 8) (U (Proc.devRef .tc main_v132) : Arr (SM 10000 512)) split8) (U (Proc.devRef .tc main_arg11))) cBot heads8.rN h0))) := by
  simp only [hostOps4, StableHlo.TRef.binary, StableHlo.TRef.nullary, StableHlo.TRef.unary, StableHlo.TRef.ternary, StableHlo.TRef.toBuf,
    StableHlo.TRef.ofBuf, cast_eq]
  after_results_simp
  all_goals rfl

/-- The slope. -/
theorem slope2_eq :
    (StableHlo.after hostOps4 U (Proc.devRef .tc main_cst_34) : Arr S0)
      = cSlope := by
  simp only [hostOps4, StableHlo.TRef.binary, StableHlo.TRef.nullary, StableHlo.TRef.unary, StableHlo.TRef.ternary, StableHlo.TRef.toBuf,
    StableHlo.TRef.ofBuf, cast_eq]
  after_results_simp
  all_goals rfl

/-- The bound. -/
theorem bound2_eq (h : (U (Proc.devRef .tc main_cst_34) : Arr S0) = cSlope) :
    (StableHlo.after hostOps4_1 U (Proc.devRef .tc main_v146) : Arr (SNH 8))
      = leakyN heads8 (U (Proc.devRef .tc main_v145)) := by
  simp only [hostOps4_1, StableHlo.TRef.binary, StableHlo.TRef.nullary, StableHlo.TRef.unary, StableHlo.TRef.ternary, StableHlo.TRef.toBuf,
    StableHlo.TRef.ofBuf, cast_eq]
  after_results_simp
  all_goals simp only [h]
  all_goals rfl

/-- The logits before their activation. -/
theorem prel2_eq :
    (StableHlo.after hostOps4_2 U (Proc.devRef .tc main_v161) : Arr (SEH 8))
      = (addf (Host.gather (gN heads8) (U (Proc.devRef .tc main_v137) : Arr (SNH 8)) (wrap (U (Proc.devRef .tc main_v3)))) (Host.gather (gN heads8) (U (Proc.devRef .tc main_v141) : Arr (SNH 8)) (wrap (U (Proc.devRef .tc main_v6)))) : Arr (SEH 8)) := by
  simp only [hostOps4_2, StableHlo.TRef.binary, StableHlo.TRef.nullary, StableHlo.TRef.unary, StableHlo.TRef.ternary, StableHlo.TRef.toBuf,
    StableHlo.TRef.ofBuf, cast_eq]
  after_results_simp
  all_goals rfl

/-- The slope, once more. -/
theorem slope2_eq' :
    (StableHlo.after hostOps4_2 U (Proc.devRef .tc main_cst_39) : Arr S0)
      = cSlope := by
  simp only [hostOps4_2, StableHlo.TRef.binary, StableHlo.TRef.nullary, StableHlo.TRef.unary, StableHlo.TRef.ternary, StableHlo.TRef.toBuf,
    StableHlo.TRef.ofBuf, cast_eq]
  after_results_simp
  all_goals rfl

/-- The logits. -/
theorem logit2_eq (h : (U (Proc.devRef .tc main_cst_39) : Arr S0) = cSlope) :
    (StableHlo.after hostOps4_3 U (Proc.devRef .tc main_v162) : Arr (SEH 8))
      = leakyE heads8 (U (Proc.devRef .tc main_v161)) := by
  simp only [hostOps4_3, StableHlo.TRef.binary, StableHlo.TRef.nullary, StableHlo.TRef.unary, StableHlo.TRef.ternary, StableHlo.TRef.toBuf,
    StableHlo.TRef.ofBuf, cast_eq]
  after_results_simp
  all_goals simp only [h]
  all_goals rfl

/-- The mix divided by the guarded sum of the weights, plus the bias. -/
theorem gat2_eq :
    (StableHlo.after hostOps4_4 U (Proc.devRef .tc main_v196) : Arr (SM 10000 512))
      = addf (shapeCast (SM 10000 512) (gatFrom heads8 (U (Proc.devRef .tc main_v3)) (U (Proc.devRef .tc main_v6)) (U (Proc.devRef .tc main_v133)) (U (Proc.devRef .tc main_v162)) (U (Proc.devRef .tc main_v146))) join8) (bias512 (U (Proc.devRef .tc main_arg13))) := by
  simp only [hostOps4_4, StableHlo.TRef.binary, StableHlo.TRef.nullary, StableHlo.TRef.unary, StableHlo.TRef.ternary, StableHlo.TRef.toBuf,
    StableHlo.TRef.ofBuf, cast_eq]
  after_results_simp
  all_goals rfl

/-- Its activation. -/
theorem gatact2_eq :
    (StableHlo.after hostOps4_5 U (Proc.devRef .tc main_v197) : Arr (SM 10000 512))
      = elu bN512 (U (Proc.devRef .tc main_v196)) := by
  simp only [hostOps4_5, StableHlo.TRef.binary, StableHlo.TRef.nullary, StableHlo.TRef.unary, StableHlo.TRef.ternary, StableHlo.TRef.toBuf,
    StableHlo.TRef.ofBuf, cast_eq]
  after_results_simp
  all_goals rfl

/-- The bias operand of the next call is zero. -/
theorem zero_v198 (j : (⟨1, ![64]⟩ : Shape).Idx) : (StableHlo.after hostOps4_6 U (Proc.devRef .tc main_v198) : Arr ⟨1, ![64]⟩) j = (0 : EReal) := by
  simp only [hostOps4_6]
  after_results_simp
  exact word_zero

end Cert.KernelIdeal.Stretch

end
-- ==== Proof.ChainC.lean ====
/- The arrays the kernel's run holds along attention layer 2. -/
module

public import proofs.«01_k».proof.Proof.ChainB
public import proofs.«01_k».proof.Proof.StretchC

@[expose] public section

set_option maxRecDepth 16384

noncomputable section

namespace Cert.KernelIdeal.Chain

open Idealize.ShloMosaic Idealize.ShloMosaic.TcCoe
open Cert.KernelIdeal.Gen Cert.KernelIdeal.Stretch Cert.KernelIdeal.Regions Cert.Gnn

variable (m : (ℓ : Loc nD τ sig) → Buf (Elt Ideal) ℓ) (ρ : Dev nD → PrngReg) (c : Dev nD)

/-- Attention layer 2. -/
abbrev att2 : Arr (SM 10000 512) := attK (src m c) (dst m c) (att1 m c) (wts m c).wg2 (wts m c).s2 (wts m c).d2 (wts m c).bg2

/-- The layer's rows, per head. -/
abbrev rows2 : Arr (SNHC 8) := shapeCast (SNHC 8) (mm (att1 m c) (wts m c).wg2) split8
/-- The sources' terms of the layer's logits. -/
abbrev als2 : Arr (SNH 8) := al heads8 (rows2 m c) (wts m c).s2
/-- The targets' terms. -/
abbrev ald2 : Arr (SNH 8) := al heads8 (rows2 m c) (wts m c).d2

/-- What call 3 leaves. -/
theorem call3 : (W22 m ρ c (Proc.devRef .tc main_v132) : Arr (SM 10000 512)) = mm (att1 m c) (wts m c).wg2 := by
  have h := final3 (V21 m ρ) c (zero_v131 (W20 m ρ c))
  have hx : (W21 m ρ c (Proc.devRef .tc main_v130) : Arr (SM 10000 512)) = att1 m c := gact1' m ρ c
  have hw : (W21 m ρ c (Proc.devRef .tc main_arg10) : Arr _) = (wts m c).wg2 := W21_args m ρ c main_arg10 (by decide)
  exact (W22_arr m ρ c 3).trans (h.trans (congrArg₂ mm hx hw))

theorem hrows2 : (W23 m ρ c (Proc.devRef .tc main_v133) : Arr (SNHC 8)) = rows2 m c := by
  have h := rows2_eq (W22 m ρ c)
  rw [call3 m ρ c] at h
  exact h
theorem hals2 : (W23 m ρ c (Proc.devRef .tc main_v137) : Arr (SNH 8)) = als2 m c := by
  have h := als2_eq (W22 m ρ c)
  have ha : (W22 m ρ c (Proc.devRef .tc main_arg11) : Arr _) = (wts m c).s2 := W22_args m ρ c main_arg11 (by decide)
  rw [call3 m ρ c, ha] at h
  exact h
theorem hald2 : (W23 m ρ c (Proc.devRef .tc main_v141) : Arr (SNH 8)) = ald2 m c := by
  have h := ald2_eq (W22 m ρ c)
  have ha : (W22 m ρ c (Proc.devRef .tc main_arg12) : Arr _) = (wts m c).d2 := W22_args m ρ c main_arg12 (by decide)
  rw [call3 m ρ c, ha] at h
  exact h

/-- The bound on the logits. -/
theorem hbound2 : (W24 m ρ c (Proc.devRef .tc main_v146) : Arr (SNH 8)) = bound heads8 (als2 m c) (ald2 m c) := by
  have h := pre2_eq (W22 m ρ c)
  have ha : (W22 m ρ c (Proc.devRef .tc main_arg11) : Arr _) = (wts m c).s2 := W22_args m ρ c main_arg11 (by decide)
  have hb : (W22 m ρ c (Proc.devRef .tc main_arg12) : Arr _) = (wts m c).d2 := W22_args m ρ c main_arg12 (by decide)
  rw [call3 m ρ c, ha, hb] at h
  have h' : (W23 m ρ c (Proc.devRef .tc main_v145) : Arr (SNH 8)) = _ := h
  have e := bound2_eq (W23 m ρ c) (slope2_eq (W22 m ρ c))
  rw [h'] at e
  exact e

/-- The logits. -/
theorem hlogit2 : (W26 m ρ c (Proc.devRef .tc main_v162) : Arr (SEH 8)) = logit heads8 (src m c) (dst m c) (als2 m c) (ald2 m c) := by
  have h := prel2_eq (W24 m ρ c)
  have ha : (W24 m ρ c (Proc.devRef .tc main_v137) : Arr (SNH 8)) = als2 m c := (W24_of m ρ c main_v137 (by decide)).trans (hals2 m ρ c)
  have hb : (W24 m ρ c (Proc.devRef .tc main_v141) : Arr (SNH 8)) = ald2 m c := (W24_of m ρ c main_v141 (by decide)).trans (hald2 m ρ c)
  rw [(edges24 m ρ c).1, (edges24 m ρ c).2, ha, hb] at h
  have h' : (W25 m ρ c (Proc.devRef .tc main_v161) : Arr (SEH 8)) = _ := h
  have e := logit2_eq (W25 m ρ c) (slope2_eq' (W24 m ρ c))
  rw [h'] at e
  exact e

/-- The layer's result. -/
theorem gact2 : (W28 m ρ c (Proc.devRef .tc main_v197) : Arr (SM 10000 512)) = att2 m c := by
  have h := gat2_eq (W26 m ρ c)
  have hr : (W26 m ρ c (Proc.devRef .tc main_v133) : Arr (SNHC 8)) = rows2 m c :=
    (W26_of m ρ c main_v133 (by decide)).trans ((W25_of m ρ c main_v133 (by decide)).trans ((W24_of m ρ c main_v133 (by decide)).trans (hrows2 m ρ c)))
  have hm : (W26 m ρ c (Proc.devRef .tc main_v146) : Arr (SNH 8)) = bound heads8 (als2 m c) (ald2 m c) :=
    (W26_of m ρ c main_v146 (by decide)).trans ((W25_of m ρ c main_v146 (by decide)).trans (hbound2 m ρ c))
  have ha : (W26 m ρ c (Proc.devRef .tc main_arg13) : Arr _) = (wts m c).bg2 := W26_args m ρ c main_arg13 (by decide)
  rw [(edges26 m ρ c).1, (edges26 m ρ c).2, hr, hm, hlogit2 m ρ c, ha, gatFrom_eq] at h
  have h' : (W27 m ρ c (Proc.devRef .tc main_v196) : Arr (SM 10000 512)) = _ := h
  have e := gatact2_eq (W27 m ρ c)
  rw [h'] at e
  exact e

theorem gact2' : (W29 m ρ c (Proc.devRef .tc main_v197) : Arr (SM 10000 512)) = att2 m c := (W29_of m ρ c main_v197 (by decide)).trans (gact2 m ρ c)

end Cert.KernelIdeal.Chain

end
-- ==== Proof.StretchD.lean ====
/- What the kernel's host computes in attention layer 3, one stretch at a time, from the arrays the stretch finds. -/
module

public import proofs.«01_k».proof.Proof.Network
public import proofs.«01_k».proof.Proof.Gen.KernelIdeal.Launch

@[expose] public section

set_option maxRecDepth 16384

noncomputable section

namespace Cert.KernelIdeal.Stretch

open Idealize.ShloMosaic Idealize.ShloMosaic.TcCoe
open Cert.KernelIdeal.Gen Cert.Gnn

variable (U : Valuation τ sig (Elt Ideal))

/-- The rows, per head. -/
theorem rows3_eq :
    (StableHlo.after hostOps5 U (Proc.devRef .tc main_v200) : Arr (SNHC 1))
      = (shapeCast (SNHC 1) (U (Proc.devRef .tc main_v199) : Arr (SM 10000 64)) split1) := by
  simp only [hostOps5, StableHlo.TRef.binary, StableHlo.TRef.nullary, StableHlo.TRef.unary, StableHlo.TRef.ternary, StableHlo.TRef.toBuf,
    StableHlo.TRef.ofBuf, cast_eq]
  after_results_simp
  all_goals rfl

/-- The sources' terms of the logits. -/
theorem als3_eq :
    (StableHlo.after hostOps5 U (Proc.devRef .tc main_v204) : Arr (SNH 1))
      = al heads1 (shapeCast (SNHC 1) (U (Proc.devRef .tc main_v199) : Arr (SM 10000 64)) split1) (U (Proc.devRef .tc main_arg15)) := by
  simp only [hostOps5, StableHlo.TRef.binary, StableHlo.TRef.nullary, StableHlo.TRef.unary, StableHlo.TRef.ternary, StableHlo.TRef.toBuf,
    StableHlo.TRef.ofBuf, cast_eq]
  after_results_simp
  all_goals rfl

/-- The targets' terms of the logits. -/
theorem ald3_eq :
    (StableHlo.after hostOps5 U (Proc.devRef .tc main_v208) : Arr (SNH 1))
      = al heads1 (shapeCast (SNHC 1) (U (Proc.devRef .tc main_v199) : Arr (SM 10000 64)) split1) (U (Proc.devRef .tc main_arg16)) := by
  simp only [hostOps5, StableHlo.TRef.binary, StableHlo.TRef.nullary, StableHlo.TRef.unary, StableHlo.TRef.ternary, StableHlo.TRef.toBuf,
    StableHlo.TRef.ofBuf, cast_eq]
  after_results_simp
  all_goals rfl

/-- The bound before its activation. -/
theorem pre3_eq :
    (StableHlo.after hostOps5 U (Proc.devRef .tc main_v212) : Arr (SNH 1))
      = addf (al heads1 (shapeCast (SNHC 1) (U (Proc.devRef .tc main_v199) : Arr (SM 10000 64)) split1) (U (Proc.devRef .tc main_arg16))) (broadcastInDim (SNH 1) ![0, 1] heads1.m2 (broadcastInDim ⟨2, ![1, 1]⟩ ![1] heads1.m1
        (Host.reduce FloatOps.maximumf (al heads1 (shapeCast (SNHC 1) (U (Proc.devRef .tc main_v199) : Arr (SM 10000 64)) split1) (U (Proc.devRef .tc main_arg15))) cBot heads1.rN h0))) := by
  simp only [hostOps5, StableHlo.TRef.binary, StableHlo.TRef.nullary, StableHlo.TRef.unary, StableHlo.TRef.ternary, StableHlo.TRef.toBuf,
    StableHlo.TRef.ofBuf, cast_eq]
  after_results_simp
  all_goals rfl

/-- The slope. -/
theorem slope3_eq :
    (StableHlo.after hostOps5 U (Proc.devRef .tc main_cst_51) : Arr S0)
      = cSlope := by
  simp only [hostOps5, StableHlo.TRef.binary, StableHlo.TRef.nullary, StableHlo.TRef.unary, StableHlo.TRef.ternary, StableHlo.TRef.toBuf,
    StableHlo.TRef.ofBuf, cast_eq]
  after_results_simp
  all_goals rfl

/-- The bound. -/
theorem bound3_eq (h : (U (Proc.devRef .tc main_cst_51) : Arr S0) = cSlope) :
    (StableHlo.after hostOps5_1 U (Proc.devRef .tc main_v213) : Arr (SNH 1))
      = leakyN heads1 (U (Proc.devRef .tc main_v212)) := by
  simp only [hostOps5_1, StableHlo.TRef.binary, StableHlo.TRef.nullary, StableHlo.TRef.unary, StableHlo.TRef.ternary, StableHlo.TRef.toBuf,
    StableHlo.TRef.ofBuf, cast_eq]
  after_results_simp
  all_goals simp only [h]
  all_goals rfl

/-- The logits before their activation. -/
theorem prel3_eq :
    (StableHlo.after hostOps5_2 U (Proc.devRef .tc main_v228) : Arr (SEH 1))
      = (addf (Host.gather (gN heads1) (U (Proc.devRef .tc main_v204) : Arr (SNH 1)) (wrap (U (Proc.devRef .tc main_v3)))) (Host.gather (gN heads1) (U (Proc.devRef .tc main_v208) : Arr (SNH 1)) (wrap (U (Proc.devRef .tc main_v6)))) : Arr (SEH 1)) := by
  simp only [hostOps5_2, StableHlo.TRef.binary, StableHlo.TRef.nullary, StableHlo.TRef.unary, StableHlo.TRef.ternary, StableHlo.TRef.toBuf,
    StableHlo.TRef.ofBuf, cast_eq]
  after_results_simp
  all_goals rfl

/-- The slope, once more. -/
theorem slope3_eq' :
    (StableHlo.after hostOps5_2 U (Proc.devRef .tc main_cst_56) : Arr S0)
      = cSlope := by
  simp only [hostOps5_2, StableHlo.TRef.binary, StableHlo.TRef.nullary, StableHlo.TRef.unary, StableHlo.TRef.ternary, StableHlo.TRef.toBuf,
    StableHlo.TRef.ofBuf, cast_eq]
  after_results_simp
  all_goals rfl

/-- The logits. -/
theorem logit3_eq (h : (U (Proc.devRef .tc main_cst_56) : Arr S0) = cSlope) :
    (StableHlo.after hostOps5_3 U (Proc.devRef .tc main_v229) : Arr (SEH 1))
      = leakyE heads1 (U (Proc.devRef .tc main_v228)) := by
  simp only [hostOps5_3, StableHlo.TRef.binary, StableHlo.TRef.nullary, StableHlo.TRef.unary, StableHlo.TRef.ternary, StableHlo.TRef.toBuf,
    StableHlo.TRef.ofBuf, cast_eq]
  after_results_simp
  all_goals simp only [h]
  all_goals rfl

/-- The mix divided by the guarded sum of the weights, its mean over the heads, plus the bias. -/
theorem gat3_eq :
    (StableHlo.after hostOps5_4 U (Proc.devRef .tc main_v265) : Arr (SNH 64))
      = meanBias (gatFrom heads1 (U (Proc.devRef .tc main_v3)) (U (Proc.devRef .tc main_v6)) (U (Proc.devRef .tc main_v200)) (U (Proc.devRef .tc main_v229)) (U (Proc.devRef .tc main_v213))) (U (Proc.devRef .tc main_arg17)) := by
  simp only [hostOps5_4, StableHlo.TRef.binary, StableHlo.TRef.nullary, StableHlo.TRef.unary, StableHlo.TRef.ternary, StableHlo.TRef.toBuf,
    StableHlo.TRef.ofBuf, cast_eq]
  after_results_simp
  all_goals rfl

/-- The log-softmax. -/
theorem head3_eq :
    (StableHlo.after hostOps5_5 U (Proc.devRef .tc main_v266) : Arr (SNH 64))
      = lsm (U (Proc.devRef .tc main_v265)) := by
  simp only [hostOps5_5, StableHlo.TRef.binary, StableHlo.TRef.nullary, StableHlo.TRef.unary, StableHlo.TRef.ternary, StableHlo.TRef.toBuf,
    StableHlo.TRef.ofBuf, cast_eq]
  after_results_simp
  all_goals rfl

end Cert.KernelIdeal.Stretch

end
-- ==== Proof.ChainD.lean ====
/- The arrays the kernel's run holds along attention layer 3. -/
module

public import proofs.«01_k».proof.Proof.ChainC
public import proofs.«01_k».proof.Proof.StretchD

@[expose] public section

set_option maxRecDepth 16384

noncomputable section

namespace Cert.KernelIdeal.Chain

open Idealize.ShloMosaic Idealize.ShloMosaic.TcCoe
open Cert.KernelIdeal.Gen Cert.KernelIdeal.Stretch Cert.KernelIdeal.Regions Cert.Gnn

variable (m : (ℓ : Loc nD τ sig) → Buf (Elt Ideal) ℓ) (ρ : Dev nD → PrngReg) (c : Dev nD)

/-- Attention layer 3. -/
abbrev result : Arr (SNH 64) := outK (src m c) (dst m c) (att2 m c) (wts m c).wg3 (wts m c).s3 (wts m c).d3 (wts m c).bg3

/-- The layer's rows, per head. -/
abbrev rows3 : Arr (SNHC 1) := shapeCast (SNHC 1) (mm (att2 m c) (wts m c).wg3) split1
/-- The sources' terms of the layer's logits. -/
abbrev als3 : Arr (SNH 1) := al heads1 (rows3 m c) (wts m c).s3
/-- The targets' terms. -/
abbrev ald3 : Arr (SNH 1) := al heads1 (rows3 m c) (wts m c).d3

/-- What call 4 leaves. -/
theorem call4 : (W30 m ρ c (Proc.devRef .tc main_v199) : Arr (SM 10000 64)) = mm (att2 m c) (wts m c).wg3 := by
  have h := final4 (V29 m ρ) c (zero_v198 (W28 m ρ c))
  have hx : (W29 m ρ c (Proc.devRef .tc main_v197) : Arr (SM 10000 512)) = att2 m c := gact2' m ρ c
  have hw : (W29 m ρ c (Proc.devRef .tc main_arg14) : Arr _) = (wts m c).wg3 := W29_args m ρ c main_arg14 (by decide)
  exact (W30_arr m ρ c 3).trans (h.trans (congrArg₂ mm hx hw))

theorem hrows3 : (W31 m ρ c (Proc.devRef .tc main_v200) : Arr (SNHC 1)) = rows3 m c := by
  have h := rows3_eq (W30 m ρ c)
  rw [call4 m ρ c] at h
  exact h
theorem hals3 : (W31 m ρ c (Proc.devRef .tc main_v204) : Arr (SNH 1)) = als3 m c := by
  have h := als3_eq (W30 m ρ c)
  have ha : (W30 m ρ c (Proc.devRef .tc main_arg15) : Arr _) = (wts m c).s3 := W30_args m ρ c main_arg15 (by decide)
  rw [call4 m ρ c, ha] at h
  exact h
theorem hald3 : (W31 m ρ c (Proc.devRef .tc main_v208) : Arr (SNH 1)) = ald3 m c := by
  have h := ald3_eq (W30 m ρ c)
  have ha : (W30 m ρ c (Proc.devRef .tc main_arg16) : Arr _) = (wts m c).d3 := W30_args m ρ c main_arg16 (by decide)
  rw [call4 m ρ c, ha] at h
  exact h

/-- The bound on the logits. -/
theorem hbound3 : (W32 m ρ c (Proc.devRef .tc main_v213) : Arr (SNH 1)) = bound heads1 (als3 m c) (ald3 m c) := by
  have h := pre3_eq (W30 m ρ c)
  have ha : (W30 m ρ c (Proc.devRef .tc main_arg15) : Arr _) = (wts m c).s3 := W30_args m ρ c main_arg15 (by decide)
  have hb : (W30 m ρ c (Proc.devRef .tc main_arg16) : Arr _) = (wts m c).d3 := W30_args m ρ c main_arg16 (by decide)
  rw [call4 m ρ c, ha, hb] at h
  have h' : (W31 m ρ c (Proc.devRef .tc main_v212) : Arr (SNH 1)) = _ := h
  have e := bound3_eq (W31 m ρ c) (slope3_eq (W30 m ρ c))
  rw [h'] at e
  exact e

/-- The logits. -/
theorem hlogit3 : (W34 m ρ c (Proc.devRef .tc main_v229) : Arr (SEH 1)) = logit heads1 (src m c) (dst m c) (als3 m c) (ald3 m c) := by
  have h := prel3_eq (W32 m ρ c)
  have ha : (W32 m ρ c (Proc.devRef .tc main_v204) : Arr (SNH 1)) = als3 m c := (W32_of m ρ c main_v204 (by decide)).trans (hals3 m ρ c)
  have hb : (W32 m ρ c (Proc.devRef .tc main_v208) : Arr (SNH 1)) = ald3 m c := (W32_of m ρ c main_v208 (by decide)).trans (hald3 m ρ c)
  rw [(edges32 m ρ c).1, (edges32 m ρ c).2, ha, hb] at h
  have h' : (W33 m ρ c (Proc.devRef .tc main_v228) : Arr (SEH 1)) = _ := h
  have e := logit3_eq (W33 m ρ c) (slope3_eq' (W32 m ρ c))
  rw [h'] at e
  exact e

/-- The layer's result. -/
theorem gact3 : (W36 m ρ c (Proc.devRef .tc main_v266) : Arr (SNH 64)) = result m c := by
  have h := gat3_eq (W34 m ρ c)
  have hr : (W34 m ρ c (Proc.devRef .tc main_v200) : Arr (SNHC 1)) = rows3 m c :=
    (W34_of m ρ c main_v200 (by decide)).trans ((W33_of m ρ c main_v200 (by decide)).trans ((W32_of m ρ c main_v200 (by decide)).trans (hrows3 m ρ c)))
  have hm : (W34 m ρ c (Proc.devRef .tc main_v213) : Arr (SNH 1)) = bound heads1 (als3 m c) (ald3 m c) :=
    (W34_of m ρ c main_v213 (by decide)).trans ((W33_of m ρ c main_v213 (by decide)).trans (hbound3 m ρ c))
  have ha : (W34 m ρ c (Proc.devRef .tc main_arg17) : Arr _) = (wts m c).bg3 := W34_args m ρ c main_arg17 (by decide)
  rw [(edges34 m ρ c).1, (edges34 m ρ c).2, hr, hm, hlogit3 m ρ c, ha, gatFrom_eq] at h
  have h' : (W35 m ρ c (Proc.devRef .tc main_v265) : Arr (SNH 64)) = _ := h
  have e := head3_eq (W35 m ρ c)
  rw [h'] at e
  exact e

/-- The kernel's run ends with its result array at the kernel's network. -/
theorem result_eq : result m c = netK (src m c) (dst m c) (wts m c) := rfl

end Cert.KernelIdeal.Chain

end
-- ==== Proof.RefValue.lean ====
/- The reference's result array is its network at the launched arguments. -/
module

public import proofs.«01_k».proof.Proof.Network
public import proofs.«01_k».proof.Proof.Gen.ReferenceIdeal.Run

@[expose] public section

set_option maxRecDepth 16384

noncomputable section

namespace Cert.ReferenceIdeal.Tie

open Idealize.ShloMosaic Idealize.ShloMosaic.TcCoe
open Cert.ReferenceIdeal.Value Cert.ReferenceIdeal.Gen Cert.Gnn

variable (V : Valuation τ sig (Elt Ideal))

/-- The edges. -/
abbrev edges : IVec (SM 2 320000) 32 := V (Proc.devRef .tc main_arg1)
/-- The floating arguments. -/
abbrev wts : Weights where
  x := V (Proc.devRef .tc main_arg0)
  w1 := V (Proc.devRef .tc main_arg2)
  b1 := V (Proc.devRef .tc main_arg3)
  w2 := V (Proc.devRef .tc main_arg4)
  b2 := V (Proc.devRef .tc main_arg5)
  wg1 := V (Proc.devRef .tc main_arg6)
  s1 := V (Proc.devRef .tc main_arg7)
  d1 := V (Proc.devRef .tc main_arg8)
  bg1 := V (Proc.devRef .tc main_arg9)
  wg2 := V (Proc.devRef .tc main_arg10)
  s2 := V (Proc.devRef .tc main_arg11)
  d2 := V (Proc.devRef .tc main_arg12)
  bg2 := V (Proc.devRef .tc main_arg13)
  wg3 := V (Proc.devRef .tc main_arg14)
  s3 := V (Proc.devRef .tc main_arg15)
  d3 := V (Proc.devRef .tc main_arg16)
  bg3 := V (Proc.devRef .tc main_arg17)
/-- The edges' sources. -/
abbrev src : IVec SE 32 := srcOf (edges V)
/-- The edges' targets. -/
abbrev dst : IVec SE 32 := dstOf (edges V)

/-- The edges' sources. -/
theorem hv3 : (res_main_v3 V : IVec SE 32) = src V := by
  unfold res_main_v3 src srcOf res_main_v0
  rfl

/-- The edges' targets. -/
theorem hv6 : (res_main_v6 V : IVec SE 32) = dst V := by
  unfold res_main_v6 dst dstOf res_main_v0
  rfl

/-- The degrees. -/
theorem hv10 : (res_main_v10 V : Arr SN) = deg wd (res_main_v6 V) := by
  unfold res_main_v10 deg
  rfl

/-- The normalizing factors. -/
theorem hv19 : (res_main_v19 V : Arr SN) = dinv (res_main_v10 V) := by
  unfold res_main_v19 dinv
  rfl

/-- The first graph convolution. -/
theorem hv51 : (res_main_v51 V : Arr (SNH 64)) = gcnR wg1 wg2 ws2 (res_main_v3 V) (res_main_v6 V) (res_main_v19 V) (mm (wts V).x (wts V).w1) (wts V).b1 := by
  unfold res_main_v51 gcnR
  rfl

/-- The degrees, once more. -/
theorem hv56 : (res_main_v56 V : Arr SN) = deg wd (res_main_v6 V) := by
  unfold res_main_v56 deg
  rfl

/-- The normalizing factors, once more. -/
theorem hv65 : (res_main_v65 V : Arr SN) = dinv (res_main_v56 V) := by
  unfold res_main_v65 dinv
  rfl

/-- The second graph convolution. -/
theorem hv97 : (res_main_v97 V : Arr (SNH 64)) = gcnR wg1 wg2 ws2 (res_main_v3 V) (res_main_v6 V) (res_main_v65 V) (mm (elu bN64 (res_main_v51 V)) (wts V).w2) (wts V).b2 := by
  unfold res_main_v97 gcnR elu
  rfl

/-- Attention layer 1: the rows, per head. -/
theorem hv100 : (res_main_v100 V : Arr (SNHC 8)) = shapeCast (SNHC 8) (mm (elu bN64 (res_main_v97 V)) (wts V).wg1) split8 := by
  unfold res_main_v100 elu
  rfl

theorem hv104 : (res_main_v104 V : Arr (SNH 8)) = al heads8 (res_main_v100 V) (wts V).s1 := by
  unfold res_main_v104 al
  rfl

theorem hv108 : (res_main_v108 V : Arr (SNH 8)) = al heads8 (res_main_v100 V) (wts V).d1 := by
  unfold res_main_v108 al
  rfl

theorem hv124 : (res_main_v124 V : Arr (SEH 8)) = logit heads8 (res_main_v3 V) (res_main_v6 V) (res_main_v104 V) (res_main_v108 V) := by
  unfold res_main_v124 res_main_v123 logit leakyE
  rfl

theorem hv138 : (res_main_v138 V : Arr (SNH 8)) = finiteOr0 heads8 (res_main_v134 V) := by
  unfold res_main_v138 finiteOr0
  rfl

theorem hv147 : (res_main_v147 V : Arr (SEH 8)) = weight heads8 (res_main_v6 V) (res_main_v124 V) (res_main_v138 V) := by
  unfold res_main_v147 weight
  rfl

theorem hv192' : (res_main_v192 V : Arr (SM 10000 512)) = (addf (shapeCast (SM 10000 512) (mix heads8 (res_main_v3 V) (res_main_v6 V) (res_main_v100 V) (Host.divf (res_main_v147 V : Arr (SEH 8)) (addf (Host.gather (gN heads8) (total heads8 (res_main_v6 V) (res_main_v147 V)) (wrap (res_main_v6 V)))
        (Host.gather (gN heads8) (mulf (splat (SNH 8) heads8.bN cEps) (Host.exp (subf (bound heads8 (res_main_v104 V) (res_main_v108 V)) (res_main_v138 V : Arr (SNH 8))))) (wrap (res_main_v6 V)))))) join8) (bias512 (wts V).bg1) : Arr (SM 10000 512)) := by
  unfold res_main_v192 res_main_v154 mix total bound leakyN
  rfl

/-- Attention layer 1. -/
theorem hv192 : (res_main_v192 V : Arr (SM 10000 512)) = (addf (shapeCast (SM 10000 512) (gatR heads8 (src V) (dst V) (shapeCast (SNHC 8) (mm (elu bN64 (res_main_v97 V)) (wts V).wg1) split8) (wts V).s1 (wts V).d1 (res_main_v134 V)) join8) (bias512 (wts V).bg1) : Arr (SM 10000 512)) := by
  rw [hv192', hv147, hv124, hv138, hv104, hv108, hv100, hv3, hv6]
  rfl

/-- Attention layer 2: the rows, per head. -/
theorem hv195 : (res_main_v195 V : Arr (SNHC 8)) = shapeCast (SNHC 8) (mm (elu bN512 (res_main_v192 V)) (wts V).wg2) split8 := by
  unfold res_main_v195 elu
  rfl

theorem hv199 : (res_main_v199 V : Arr (SNH 8)) = al heads8 (res_main_v195 V) (wts V).s2 := by
  unfold res_main_v199 al
  rfl

theorem hv203 : (res_main_v203 V : Arr (SNH 8)) = al heads8 (res_main_v195 V) (wts V).d2 := by
  unfold res_main_v203 al
  rfl

theorem hv219 : (res_main_v219 V : Arr (SEH 8)) = logit heads8 (res_main_v3 V) (res_main_v6 V) (res_main_v199 V) (res_main_v203 V) := by
  unfold res_main_v219 res_main_v218 logit leakyE
  rfl

theorem hv233 : (res_main_v233 V : Arr (SNH 8)) = finiteOr0 heads8 (res_main_v229 V) := by
  unfold res_main_v233 finiteOr0
  rfl

theorem hv242 : (res_main_v242 V : Arr (SEH 8)) = weight heads8 (res_main_v6 V) (res_main_v219 V) (res_main_v233 V) := by
  unfold res_main_v242 weight
  rfl

theorem hv287' : (res_main_v287 V : Arr (SM 10000 512)) = (addf (shapeCast (SM 10000 512) (mix heads8 (res_main_v3 V) (res_main_v6 V) (res_main_v195 V) (Host.divf (res_main_v242 V : Arr (SEH 8)) (addf (Host.gather (gN heads8) (total heads8 (res_main_v6 V) (res_main_v242 V)) (wrap (res_main_v6 V)))
        (Host.gather (gN heads8) (mulf (splat (SNH 8) heads8.bN cEps) (Host.exp (subf (bound heads8 (res_main_v199 V) (res_main_v203 V)) (res_main_v233 V : Arr (SNH 8))))) (wrap (res_main_v6 V)))))) join8) (bias512 (wts V).bg2) : Arr (SM 10000 512)) := by
  unfold res_main_v287 res_main_v249 mix total bound leakyN
  rfl

/-- Attention layer 2. -/
theorem hv287 : (res_main_v287 V : Arr (SM 10000 512)) = (addf (shapeCast (SM 10000 512) (gatR heads8 (src V) (dst V) (shapeCast (SNHC 8) (mm (elu bN512 (res_main_v192 V)) (wts V).wg2) split8) (wts V).s2 (wts V).d2 (res_main_v229 V)) join8) (bias512 (wts V).bg2) : Arr (SM 10000 512)) := by
  rw [hv287', hv242, hv219, hv233, hv199, hv203, hv195, hv3, hv6]
  rfl

/-- Attention layer 3: the rows, per head. -/
theorem hv290 : (res_main_v290 V : Arr (SNHC 1)) = shapeCast (SNHC 1) (mm (elu bN512 (res_main_v287 V)) (wts V).wg3) split1 := by
  unfold res_main_v290 elu
  rfl

theorem hv294 : (res_main_v294 V : Arr (SNH 1)) = al heads1 (res_main_v290 V) (wts V).s3 := by
  unfold res_main_v294 al
  rfl

theorem hv298 : (res_main_v298 V : Arr (SNH 1)) = al heads1 (res_main_v290 V) (wts V).d3 := by
  unfold res_main_v298 al
  rfl

theorem hv314 : (res_main_v314 V : Arr (SEH 1)) = logit heads1 (res_main_v3 V) (res_main_v6 V) (res_main_v294 V) (res_main_v298 V) := by
  unfold res_main_v314 res_main_v313 logit leakyE
  rfl

theorem hv328 : (res_main_v328 V : Arr (SNH 1)) = finiteOr0 heads1 (res_main_v324 V) := by
  unfold res_main_v328 finiteOr0
  rfl

theorem hv337 : (res_main_v337 V : Arr (SEH 1)) = weight heads1 (res_main_v6 V) (res_main_v314 V) (res_main_v328 V) := by
  unfold res_main_v337 weight
  rfl

theorem hv384' : (res_main_v384 V : Arr (SNH 64)) = meanBias (mix heads1 (res_main_v3 V) (res_main_v6 V) (res_main_v290 V) (Host.divf (res_main_v337 V : Arr (SEH 1)) (addf (Host.gather (gN heads1) (total heads1 (res_main_v6 V) (res_main_v337 V)) (wrap (res_main_v6 V)))
        (Host.gather (gN heads1) (mulf (splat (SNH 1) heads1.bN cEps) (Host.exp (subf (bound heads1 (res_main_v294 V) (res_main_v298 V)) (res_main_v328 V : Arr (SNH 1))))) (wrap (res_main_v6 V)))))) (wts V).bg3 := by
  unfold res_main_v384 res_main_v344 mix total bound leakyN meanBias
  rfl

/-- Attention layer 3. -/
theorem hv384 : (res_main_v384 V : Arr (SNH 64)) = meanBias (gatR heads1 (src V) (dst V) (shapeCast (SNHC 1) (mm (elu bN512 (res_main_v287 V)) (wts V).wg3) split1) (wts V).s3 (wts V).d3 (res_main_v324 V)) (wts V).bg3 := by
  rw [hv384', hv337, hv314, hv328, hv294, hv298, hv290, hv3, hv6]
  rfl

/-- The array the log-softmax leaves. -/
theorem result_eq : (subf (res_main_call20_v5 V : Arr (SNH 64)) (broadcastInDim (SNH 64) ![0, 1] bNN
    (Host.log (broadcastInDim SN1 ![0] bN1 (Host.reduceAdd (Host.exp (res_main_call20_v5 V : Arr (SNH 64))) c0 rowR h0)))) : Arr (SNH 64))
      = netR (src V) (dst V) (wts V) (res_main_v134 V) (res_main_v229 V) (res_main_v324 V) := by
  have h : (res_main_call20_v5 V : Arr (SNH 64)) = shift (res_main_v384 V) := by
    unfold res_main_call20_v5 shift
    rfl
  rw [h, hv384, hv287, hv192, hv97, hv51, hv65, hv19, hv56, hv10, hv3, hv6]
  rfl

end Cert.ReferenceIdeal.Tie

end
-- ==== Proof.Ends.lean ====
/- The value claim's two halves: the kernel's run ends at the network it computes, and so does the reference's. -/
module

public import proofs.«01_k».proof.Defs
public import proofs.«01_k».proof.Proof.Pre
public import proofs.«01_k».proof.Proof.KernelRun
public import proofs.«01_k».proof.Proof.ChainD
public import proofs.«01_k».proof.Proof.RefValue

@[expose] public section

noncomputable section

namespace Cert.Gnn

open Idealize.ShloMosaic Idealize.SL.Sem

attribute [ext] Weights

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The network of the kernel's arguments on a device. -/
abbrev network (c : Dev Cert.KernelIdeal.nD) : Arr (SNH 64) :=
  netK (Cert.KernelIdeal.Chain.src m c) (Cert.KernelIdeal.Chain.dst m c) (Cert.KernelIdeal.Chain.wts m c)

/-- The two programs' arguments agree on a device. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

variable {m m'}

/-- Where the arguments agree, both programs read the same edge list. -/
theorem Agree.edges {c : Dev Cert.KernelIdeal.nD} (h : Agree m m' c) :
    Cert.ReferenceIdeal.Tie.edges (StableHlo.launchContents m' c) = Cert.KernelIdeal.Chain.edges m c := h.2.1

/-- Where the arguments agree, both programs read the same weights. -/
theorem Agree.weights {c : Dev Cert.KernelIdeal.nD} (h : Agree m m' c) :
    Cert.ReferenceIdeal.Tie.wts (StableHlo.launchContents m' c) = Cert.KernelIdeal.Chain.wts m c := by
  obtain ⟨h0, h1, h2, h3, h4, h5, h6, h7, h8, h9, h10, h11, h12, h13, h14, h15, h16, h17⟩ := h
  exact Weights.ext h0 h2 h3 h4 h5 h6 h7 h8 h9 h10 h11 h12 h13 h14 h15 h16 h17

/-- The kernel's weights are real numbers where the precondition holds. -/
theorem kernel_weights_real (h : @Cert.Pre_KernelIdeal_finite preFacts m) (c : Dev Cert.KernelIdeal.nD) : (Cert.KernelIdeal.Chain.wts m c).Real :=
  weights_real (Cert.KernelIdeal.Chain.wts m c) (Cert.KernelIdeal.Chain.edges m c) (h c)

/-- What the reference's run ends with on a device is the kernel's network there. -/
theorem reference_network {c : Dev Cert.KernelIdeal.nD} (hr : (Cert.KernelIdeal.Chain.wts m c).Real) (h : Agree m m' c) (e1 e2 e3) :
    netR (Cert.ReferenceIdeal.Tie.src (StableHlo.launchContents m' c)) (Cert.ReferenceIdeal.Tie.dst (StableHlo.launchContents m' c))
      (Cert.ReferenceIdeal.Tie.wts (StableHlo.launchContents m' c)) e1 e2 e3 = network m c := by
  have he := h.edges
  have hw := h.weights
  unfold Cert.ReferenceIdeal.Tie.src Cert.ReferenceIdeal.Tie.dst
  rw [he, hw]
  exact (net_eq _ _ hr e1 e2 e3).symm

variable (m m')

/-- The kernel's run ends with its result at the network of its arguments. -/
theorem kernel_run (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v266) = network m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) :=
  (θ_run _ _ _).mono (fun _ h c => ⟨(h.1 c).1.trans ((Cert.KernelIdeal.Chain.gact3 m g c).trans (Cert.KernelIdeal.Chain.result_eq m c)), (h.1 c).2⟩) (Cert.KernelIdeal.Whole.run m g)

/-- The reference's run ends with its result at the same network, from arguments that agree and are real numbers. -/
theorem reference_run (g : Dev Cert.ReferenceIdeal.nD → PrngReg) (hp : @Cert.Pre_KernelIdeal_finite preFacts m) (ha : ∀ c : Dev Cert.KernelIdeal.nD, Agree m m' c) :
    θ_run (Cert.ReferenceIdeal.defs (F := Ideal)) (onTc (τ := Cert.ReferenceIdeal.τ) (Cert.ReferenceIdeal.main (F := Ideal))) ⟨m', fun _ => 0, g⟩ (fun r => ∀ c : Dev Cert.ReferenceIdeal.nD,
      r.2.mem ((c.tc : Thread Cert.ReferenceIdeal.nD Cert.ReferenceIdeal.τ).loc Cert.ReferenceIdeal.main_v385) = network m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)) :=
  (θ_run _ _ _).mono (fun _ h c => ⟨(h c).1.trans ((Cert.ReferenceIdeal.Tie.result_eq (StableHlo.launchContents m' c)).trans
    (reference_network (kernel_weights_real hp c) (ha c) _ _ _)), (h c).2⟩) (Cert.ReferenceIdeal.Value.run m' g)

/-- The reference leaves its arguments and, declaring no semaphore, every counter at zero. -/
theorem reference_frame (g : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g⟩ (fun r => (∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))
      ∧ r.2.sem = fun _ => 0) :=
  (θ_run _ _ _).mono (fun r h => ⟨fun c => (h c).2, sem_eq_zero_of_no_sems (by decide) r.2⟩) (Cert.ReferenceIdeal.Value.run m' g)

end Cert.Gnn

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Ends
public import Idealize.ShloMosaic.Adequacy
public import Idealize.ShloMosaic.Init

@[expose] public section

noncomputable section

namespace Cert.Proof

open Idealize.ShloMosaic Idealize.SL.Sem Cert.Gnn

/-- Every claim: the programs terminate with their arguments unchanged and their counters at zero, and over the reals the kernel
    and the reference end with the same result from the same finite arguments. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    fun m g m' g' hp ha => ⟨network m, kernel_run m g, reference_run m m' g' hp ha⟩⟩

end Cert.Proof

end
